-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "off_sub_on" .f32 0xBF666632#32 ((-287981 / 319980 : ℝ) : EReal)
  ∧ IdealRules.named_const.Statement Cert.KernelIdeal.κ "neg_off" .f32 0xB651BA72#32 ((-1 / 319980 : ℝ) : EReal)
  ∧ IdealRules.named_const.Statement Cert.KernelIdeal.κ "off" .f32 0x3651BA72#32 ((1 / 319980 : ℝ) : EReal)
  ∧ IdealRules.named_const.Statement Cert.KernelIdeal.κ "entropy" .f32 0xBFAE63F8#32 (((1 / 10) * (Real.log (129140163 / 106660000000000)) : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S4096x32000 : Shape := ⟨2, ![4096, 32000]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x32000 : S_.BroadcastsInDim S4096x32000 (![] : Fin 0 → Fin S4096x32000.rank)
  reducesTo_S4096x32000_S_d0_1 : S4096x32000.ReducesTo [0, 1] S_

variable [Facts]

def fn {F : FTy → Type} [FloatOps F] (main_arg0 : FVec F S4096x32000 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 32000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S4096x32000 .f32 := Host.absf main_arg0
  let main_cst : FVec F S_ .f32 := constant S_ .f32 0x7F800000#32
  let main_v7 : FVec F S4096x32000 .f32 := broadcastInDim S4096x32000 ![] bcast_S_S4096x32000 main_cst
  let main_v8 : IVec S4096x32000 1 := cmpf .olt main_v6 main_v7
  let main_c_2 : IVec S_ 1 := constantI S_ 1 1#1
  let main_v9 : IVec S_ 1 := (fun x v => Host.reduce IntOp.andi x v reducesTo_S4096x32000_S_d0_1 h_S_) main_v8 main_c_2
  let main_v10 : IVec S_ 1 := andi main_v5 main_v9
  main_v10
-- ==== Pre_in_range.lean ====
abbrev S4096x32000 : Shape := ⟨2, ![4096, 32000]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x32000 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 32000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x32000 : Shape := ⟨2, ![4096, 32000]⟩
abbrev S4096 : Shape := ⟨1, ![4096]⟩
abbrev S32x16 : Shape := ⟨2, ![32, 16]⟩
abbrev S128 : Shape := ⟨1, ![128]⟩
abbrev S16 : Shape := ⟨1, ![16]⟩
abbrev S16000 : Shape := ⟨1, ![16000]⟩
abbrev S_ : Shape := ⟨0, ![]⟩
abbrev S1x16000 : Shape := ⟨2, ![1, 16000]⟩
abbrev S1 : Shape := ⟨1, ![1]⟩
abbrev S1x16 : Shape := ⟨2, ![1, 16]⟩
abbrev S16x256x1 : Shape := ⟨3, ![16, 256, 1]⟩
abbrev S1x1 : Shape := ⟨2, ![1, 1]⟩
abbrev S256x3200 : Shape := ⟨2, ![256, 3200]⟩
abbrev S1x256x1 : Shape := ⟨3, ![1, 256, 1]⟩
abbrev S256x1 : Shape := ⟨2, ![256, 1]⟩
abbrev S256 : Shape := ⟨1, ![256]⟩
abbrev S1x1x1 : Shape := ⟨3, ![1, 1, 1]⟩
abbrev S1x256x3200 : Shape := ⟨3, ![1, 256, 3200]⟩

abbrev nBuf : Table → Nat
  | .hbm => 9
  | .local .tc .vmem => 3
  | .local .tc .smem => 1
  | .local .scVector .vmem => 7
  | _ => 0

abbrev bufTy : (tb : Table) → Fin (nBuf tb) → BufTy
  | .hbm, ⟨0, _⟩ => ⟨S4096x32000, .f32⟩
  | .hbm, ⟨1, _⟩ => ⟨S4096, .i32⟩
  | .hbm, ⟨2, _⟩ => ⟨S32x16, .f32⟩
  | .hbm, ⟨3, _⟩ => ⟨S16x256x1, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .tc .vmem, ⟨0, _⟩ => ⟨S256x3200, .f32⟩
  | .local .tc .vmem, ⟨1, _⟩ => ⟨S256x3200, .f32⟩
  | .local .tc .vmem, ⟨2, _⟩ => ⟨S16x256x1, .i32⟩
  | .local .tc .smem, ⟨0, _⟩ => ⟨S1x1, .f32⟩
  | .local .scVector .vmem, ⟨0, _⟩ => ⟨S128, .i32⟩
  | .local .scVector .vmem, ⟨1, _⟩ => ⟨S128, .f32⟩
  | .local .scVector .vmem, ⟨2, _⟩ => ⟨S16, .f32⟩
  | .local .scVector .vmem, ⟨3, _⟩ => ⟨S16000, .f32⟩
  | .local .scVector .vmem, ⟨4, _⟩ => ⟨S16000, .f32⟩
  | .local .scVector .vmem, ⟨5, _⟩ => ⟨S16000, .f32⟩
  | .local .scVector .vmem, ⟨6, _⟩ => ⟨S16000, .f32⟩
  | _, _ => ⟨S4096x32000, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 6
abbrev cc1_sem0_1 : DmaSem sig := 7
abbrev cc1_sem1_0 : DmaSem sig := 8
abbrev cc1_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v4 : BitVec 32 := Scalar.addi v2 c0_i32
  let c16000_i32 : BitVec 32 := 16000#32
  ![v4.toNat, 16000]
@[reducible] def k0_t1_loop : Scf.Loop 32 :=
  let c0_i32_8 : BitVec 32 := 0#32
  let c32_i32 : BitVec 32 := 32#32
  let v25 : BitVec 32 := Scalar.addi c0_i32_8 c32_i32
  let c1_i32_9 : BitVec 32 := 1#32
  ⟨c0_i32_8, v25, c1_i32_9⟩
@[reducible] def k0_t2_loop : Scf.Loop 32 :=
  let c0_i32_50 : BitVec 32 := 0#32
  let c125_i32 : BitVec 32 := 125#32
  let v109 : BitVec 32 := Scalar.addi c0_i32_50 c125_i32
  let c1_i32_51 : BitVec 32 := 1#32
  ⟨c0_i32_50, v109, c1_i32_51⟩
def k0_off3 (k0_t2 : Fin k0_t2_loop.trips) : Fin 1 → Nat :=
  let c0_i32_50 : BitVec 32 := 0#32
  let c1_i32_51 : BitVec 32 := 1#32
  let arg18 : BitVec 32 := Scf.iv c0_i32_50 c1_i32_51 k0_t2
  let c128_i32_129 : BitVec 32 := 128#32
  let v490 : BitVec 32 := Scalar.muli arg18 c128_i32_129
  let v491 : Index := Scalar.indexCast v490
  ![v491.toNat]
def k0_off4 (k0_t2 : Fin k0_t2_loop.trips) (c64_i32 : BitVec 32) : Fin 1 → Nat :=
  let c0_i32_50 : BitVec 32 := 0#32
  let c1_i32_51 : BitVec 32 := 1#32
  let arg18 : BitVec 32 := Scf.iv c0_i32_50 c1_i32_51 k0_t2
  let c128_i32_129 : BitVec 32 := 128#32
  let v490 : BitVec 32 := Scalar.muli arg18 c128_i32_129
  let v494 : BitVec 32 := Scalar.addi v490 c64_i32
  let v495 : Index := Scalar.indexCast v494
  ![v495.toNat]
def k0_off5 (k0_t1 : Fin k0_t1_loop.trips) : Fin 1 → Nat :=
  let c4_i32 : BitVec 32 := 4#32
  let c0_i32_8 : BitVec 32 := 0#32
  let c1_i32_9 : BitVec 32 := 1#32
  let arg16 : BitVec 32 := Scf.iv c0_i32_8 c1_i32_9 k0_t1
  let v102 : BitVec 32 := Scalar.muli c4_i32 arg16
  let c0_i32_45 : BitVec 32 := 0#32
  let v103 : BitVec 32 := Scalar.addi v102 c0_i32_45
  let c15_i32 : BitVec 32 := 15#32
  let v161 : BitVec 32 := Scalar.andi v103 c15_i32
  let v162 : BitVec 32 := Scalar.subi v103 v161
  let v163 : Index := Scalar.indexCast v162
  ![v163.toNat]

def k0_chk1 (v178 : IVec S16 32) : Prop :=
  (∀ a x, ((![v178] : Fin 1 → IVec S16 32) a x).toNat < S16000.size a)
theorem k0_idx1_inb : ∀ (v178 : IVec S16 32) (k0_hw1 : k0_chk1 v178), ∀ a x, ((![v178] : Fin 1 → IVec S16 32) a x).toNat < S16000.size a := fun v178 k0_hw1 => k0_hw1
def k0_off6 (k0_t1 : Fin k0_t1_loop.trips) (c0_i32_45 : BitVec 32) : Fin 1 → Nat :=
  let c4_i32 : BitVec 32 := 4#32
  let c0_i32_8 : BitVec 32 := 0#32
  let c1_i32_9 : BitVec 32 := 1#32
  let arg16 : BitVec 32 := Scf.iv c0_i32_8 c1_i32_9 k0_t1
  let v102 : BitVec 32 := Scalar.muli c4_i32 arg16
  let v103 : BitVec 32 := Scalar.addi v102 c0_i32_45
  let c15_i32 : BitVec 32 := 15#32
  let v161 : BitVec 32 := Scalar.andi v103 c15_i32
  let v162 : BitVec 32 := Scalar.subi v103 v161
  let v187 : Index := Scalar.indexCast v162
  ![v187.toNat]
def k0_cond1 (k0_t1 : Fin k0_t1_loop.trips) : BitVec 1 :=
  let c4_i32 : BitVec 32 := 4#32
  let c0_i32_8 : BitVec 32 := 0#32
  let c1_i32_9 : BitVec 32 := 1#32
  let arg16 : BitVec 32 := Scf.iv c0_i32_8 c1_i32_9 k0_t1
  let v102 : BitVec 32 := Scalar.muli c4_i32 arg16
  let c0_i32_45 : BitVec 32 := 0#32
  let v103 : BitVec 32 := Scalar.addi v102 c0_i32_45
  let c4_i32_60 : BitVec 32 := 4#32
  let v195 : BitVec 32 := Scalar.addi v103 c4_i32_60
  let c128_i32_61 : BitVec 32 := 128#32
  let v196 : BitVec 1 := Scalar.cmpi .slt v195 c128_i32_61
  let v197 : BitVec 32 := Scalar.extui v196
  let c0_i32_62 : BitVec 32 := 0#32
  let v198 : BitVec 1 := Scalar.cmpi .ne v197 c0_i32_62
  v198

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let c0_i32_8 : BitVec 32 := 0#32
  let c1_i32_9 : BitVec 32 := 1#32
  let arg16 : BitVec 32 := Scf.iv c0_i32_8 c1_i32_9 k0_t1
  let v102 : BitVec 32 := Scalar.muli c4_i32 arg16
  let c0_i32_45 : BitVec 32 := 0#32
  let v103 : BitVec 32 := Scalar.addi v102 c0_i32_45
  let v490 : BitVec 32 := Scalar.addi v2 v103
  let c4_i32_129 : BitVec 32 := 4#32
  let v491 : BitVec 32 := Scalar.addi v490 c4_i32_129
  let c16000_i32_130 : BitVec 32 := 16000#32
  ![v491.toNat, 16000]
@[reducible] def k0_t3_loop : Scf.Loop 32 :=
  let c0_i32_69 : BitVec 32 := 0#32
  let c125_i32_70 : BitVec 32 := 125#32
  let v206 : BitVec 32 := Scalar.addi c0_i32_69 c125_i32_70
  let c1_i32_71 : BitVec 32 := 1#32
  ⟨c0_i32_69, v206, c1_i32_71⟩
def k0_off8 (k0_t3 : Fin k0_t3_loop.trips) : Fin 1 → Nat :=
  let c0_i32_69 : BitVec 32 := 0#32
  let c1_i32_71 : BitVec 32 := 1#32
  let arg18 : BitVec 32 := Scf.iv c0_i32_69 c1_i32_71 k0_t3
  let c128_i32_129 : BitVec 32 := 128#32
  let v490 : BitVec 32 := Scalar.muli arg18 c128_i32_129
  let v491 : Index := Scalar.indexCast v490
  ![v491.toNat]
def k0_off9 (k0_t3 : Fin k0_t3_loop.trips) (c64_i32 : BitVec 32) : Fin 1 → Nat :=
  let c0_i32_69 : BitVec 32 := 0#32
  let c1_i32_71 : BitVec 32 := 1#32
  let arg18 : BitVec 32 := Scf.iv c0_i32_69 c1_i32_71 k0_t3
  let c128_i32_129 : BitVec 32 := 128#32
  let v490 : BitVec 32 := Scalar.muli arg18 c128_i32_129
  let v494 : BitVec 32 := Scalar.addi v490 c64_i32
  let v495 : Index := Scalar.indexCast v494
  ![v495.toNat]

def k0_chk2 (v275 : IVec S16 32) : Prop :=
  (∀ a x, ((![v275] : Fin 1 → IVec S16 32) a x).toNat < S16000.size a)
theorem k0_idx2_inb : ∀ (v275 : IVec S16 32) (k0_hw2 : k0_chk2 v275), ∀ a x, ((![v275] : Fin 1 → IVec S16 32) a x).toNat < S16000.size a := fun v275 k0_hw2 => k0_hw2
def k0_off10 (k0_t1 : Fin k0_t1_loop.trips) (c1_i32_64 : BitVec 32) : Fin 1 → Nat :=
  let c4_i32_63 : BitVec 32 := 4#32
  let c0_i32_8 : BitVec 32 := 0#32
  let c1_i32_9 : BitVec 32 := 1#32
  let arg16 : BitVec 32 := Scf.iv c0_i32_8 c1_i32_9 k0_t1
  let v199 : BitVec 32 := Scalar.muli c4_i32_63 arg16
  let v200 : BitVec 32 := Scalar.addi v199 c1_i32_64
  let c15_i32_73 : BitVec 32 := 15#32
  let v258 : BitVec 32 := Scalar.andi v200 c15_i32_73
  let v259 : BitVec 32 := Scalar.subi v200 v258
  let v284 : Index := Scalar.indexCast v259
  ![v284.toNat]
def k0_cond2 (k0_t1 : Fin k0_t1_loop.trips) : BitVec 1 :=
  let c4_i32_63 : BitVec 32 := 4#32
  let c0_i32_8 : BitVec 32 := 0#32
  let c1_i32_9 : BitVec 32 := 1#32
  let arg16 : BitVec 32 := Scf.iv c0_i32_8 c1_i32_9 k0_t1
  let v199 : BitVec 32 := Scalar.muli c4_i32_63 arg16
  let c1_i32_64 : BitVec 32 := 1#32
  let v200 : BitVec 32 := Scalar.addi v199 c1_i32_64
  let c4_i32_82 : BitVec 32 := 4#32
  let v292 : BitVec 32 := Scalar.addi v200 c4_i32_82
  let c128_i32_83 : BitVec 32 := 128#32
  let v293 : BitVec 1 := Scalar.cmpi .slt v292 c128_i32_83
  let v294 : BitVec 32 := Scalar.extui v293
  let c0_i32_84 : BitVec 32 := 0#32
  let v295 : BitVec 1 := Scalar.cmpi .ne v294 c0_i32_84
  v295

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_63 : BitVec 32 := 4#32
  let c0_i32_8 : BitVec 32 := 0#32
  let c1_i32_9 : BitVec 32 := 1#32
  let arg16 : BitVec 32 := Scf.iv c0_i32_8 c1_i32_9 k0_t1
  let v199 : BitVec 32 := Scalar.muli c4_i32_63 arg16
  let c1_i32_64 : BitVec 32 := 1#32
  let v200 : BitVec 32 := Scalar.addi v199 c1_i32_64
  let v490 : BitVec 32 := Scalar.addi v2 v200
  let c4_i32_129 : BitVec 32 := 4#32
  let v491 : BitVec 32 := Scalar.addi v490 c4_i32_129
  let c16000_i32_130 : BitVec 32 := 16000#32
  ![v491.toNat, 16000]
@[reducible] def k0_t4_loop : Scf.Loop 32 :=
  let c0_i32_91 : BitVec 32 := 0#32
  let c125_i32_92 : BitVec 32 := 125#32
  let v303 : BitVec 32 := Scalar.addi c0_i32_91 c125_i32_92
  let c1_i32_93 : BitVec 32 := 1#32
  ⟨c0_i32_91, v303, c1_i32_93⟩
def k0_off12 (k0_t4 : Fin k0_t4_loop.trips) : Fin 1 → Nat :=
  let c0_i32_91 : BitVec 32 := 0#32
  let c1_i32_93 : BitVec 32 := 1#32
  let arg18 : BitVec 32 := Scf.iv c0_i32_91 c1_i32_93 k0_t4
  let c128_i32_129 : BitVec 32 := 128#32
  let v490 : BitVec 32 := Scalar.muli arg18 c128_i32_129
  let v491 : Index := Scalar.indexCast v490
  ![v491.toNat]
def k0_off13 (k0_t4 : Fin k0_t4_loop.trips) (c64_i32 : BitVec 32) : Fin 1 → Nat :=
  let c0_i32_91 : BitVec 32 := 0#32
  let c1_i32_93 : BitVec 32 := 1#32
  let arg18 : BitVec 32 := Scf.iv c0_i32_91 c1_i32_93 k0_t4
  let c128_i32_129 : BitVec 32 := 128#32
  let v490 : BitVec 32 := Scalar.muli arg18 c128_i32_129
  let v494 : BitVec 32 := Scalar.addi v490 c64_i32
  let v495 : Index := Scalar.indexCast v494
  ![v495.toNat]

def k0_chk3 (v372 : IVec S16 32) : Prop :=
  (∀ a x, ((![v372] : Fin 1 → IVec S16 32) a x).toNat < S16000.size a)
theorem k0_idx3_inb : ∀ (v372 : IVec S16 32) (k0_hw3 : k0_chk3 v372), ∀ a x, ((![v372] : Fin 1 → IVec S16 32) a x).toNat < S16000.size a := fun v372 k0_hw3 => k0_hw3
def k0_off14 (k0_t1 : Fin k0_t1_loop.trips) (c2_i32_86 : BitVec 32) : Fin 1 → Nat :=
  let c4_i32_85 : BitVec 32 := 4#32
  let c0_i32_8 : BitVec 32 := 0#32
  let c1_i32_9 : BitVec 32 := 1#32
  let arg16 : BitVec 32 := Scf.iv c0_i32_8 c1_i32_9 k0_t1
  let v296 : BitVec 32 := Scalar.muli c4_i32_85 arg16
  let v297 : BitVec 32 := Scalar.addi v296 c2_i32_86
  let c15_i32_95 : BitVec 32 := 15#32
  let v355 : BitVec 32 := Scalar.andi v297 c15_i32_95
  let v356 : BitVec 32 := Scalar.subi v297 v355
  let v381 : Index := Scalar.indexCast v356
  ![v381.toNat]
def k0_cond3 (k0_t1 : Fin k0_t1_loop.trips) : BitVec 1 :=
  let c4_i32_85 : BitVec 32 := 4#32
  let c0_i32_8 : BitVec 32 := 0#32
  let c1_i32_9 : BitVec 32 := 1#32
  let arg16 : BitVec 32 := Scf.iv c0_i32_8 c1_i32_9 k0_t1
  let v296 : BitVec 32 := Scalar.muli c4_i32_85 arg16
  let c2_i32_86 : BitVec 32 := 2#32
  let v297 : BitVec 32 := Scalar.addi v296 c2_i32_86
  let c4_i32_104 : BitVec 32 := 4#32
  let v389 : BitVec 32 := Scalar.addi v297 c4_i32_104
  let c128_i32_105 : BitVec 32 := 128#32
  let v390 : BitVec 1 := Scalar.cmpi .slt v389 c128_i32_105
  let v391 : BitVec 32 := Scalar.extui v390
  let c0_i32_106 : BitVec 32 := 0#32
  let v392 : BitVec 1 := Scalar.cmpi .ne v391 c0_i32_106
  v392

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_85 : BitVec 32 := 4#32
  let c0_i32_8 : BitVec 32 := 0#32
  let c1_i32_9 : BitVec 32 := 1#32
  let arg16 : BitVec 32 := Scf.iv c0_i32_8 c1_i32_9 k0_t1
  let v296 : BitVec 32 := Scalar.muli c4_i32_85 arg16
  let c2_i32_86 : BitVec 32 := 2#32
  let v297 : BitVec 32 := Scalar.addi v296 c2_i32_86
  let v490 : BitVec 32 := Scalar.addi v2 v297
  let c4_i32_129 : BitVec 32 := 4#32
  let v491 : BitVec 32 := Scalar.addi v490 c4_i32_129
  let c16000_i32_130 : BitVec 32 := 16000#32
  ![v491.toNat, 16000]
@[reducible] def k0_t5_loop : Scf.Loop 32 :=
  let c0_i32_113 : BitVec 32 := 0#32
  let c125_i32_114 : BitVec 32 := 125#32
  let v400 : BitVec 32 := Scalar.addi c0_i32_113 c125_i32_114
  let c1_i32_115 : BitVec 32 := 1#32
  ⟨c0_i32_113, v400, c1_i32_115⟩
def k0_off16 (k0_t5 : Fin k0_t5_loop.trips) : Fin 1 → Nat :=
  let c0_i32_113 : BitVec 32 := 0#32
  let c1_i32_115 : BitVec 32 := 1#32
  let arg18 : BitVec 32 := Scf.iv c0_i32_113 c1_i32_115 k0_t5
  let c128_i32_129 : BitVec 32 := 128#32
  let v490 : BitVec 32 := Scalar.muli arg18 c128_i32_129
  let v491 : Index := Scalar.indexCast v490
  ![v491.toNat]
def k0_off17 (k0_t5 : Fin k0_t5_loop.trips) (c64_i32 : BitVec 32) : Fin 1 → Nat :=
  let c0_i32_113 : BitVec 32 := 0#32
  let c1_i32_115 : BitVec 32 := 1#32
  let arg18 : BitVec 32 := Scf.iv c0_i32_113 c1_i32_115 k0_t5
  let c128_i32_129 : BitVec 32 := 128#32
  let v490 : BitVec 32 := Scalar.muli arg18 c128_i32_129
  let v494 : BitVec 32 := Scalar.addi v490 c64_i32
  let v495 : Index := Scalar.indexCast v494
  ![v495.toNat]

def k0_chk4 (v469 : IVec S16 32) : Prop :=
  (∀ a x, ((![v469] : Fin 1 → IVec S16 32) a x).toNat < S16000.size a)
theorem k0_idx4_inb : ∀ (v469 : IVec S16 32) (k0_hw4 : k0_chk4 v469), ∀ a x, ((![v469] : Fin 1 → IVec S16 32) a x).toNat < S16000.size a := fun v469 k0_hw4 => k0_hw4
def k0_off18 (k0_t1 : Fin k0_t1_loop.trips) : Fin 1 → Nat :=
  let c4_i32_107 : BitVec 32 := 4#32
  let c0_i32_8 : BitVec 32 := 0#32
  let c1_i32_9 : BitVec 32 := 1#32
  let arg16 : BitVec 32 := Scf.iv c0_i32_8 c1_i32_9 k0_t1
  let v393 : BitVec 32 := Scalar.muli c4_i32_107 arg16
  let c3_i32_108 : BitVec 32 := 3#32
  let v394 : BitVec 32 := Scalar.addi v393 c3_i32_108
  let c15_i32_117 : BitVec 32 := 15#32
  let v452 : BitVec 32 := Scalar.andi v394 c15_i32_117
  let v453 : BitVec 32 := Scalar.subi v394 v452
  let v478 : Index := Scalar.indexCast v453
  ![v478.toNat]
def k0_cond4 (k0_t1 : Fin k0_t1_loop.trips) : BitVec 1 :=
  let c4_i32_107 : BitVec 32 := 4#32
  let c0_i32_8 : BitVec 32 := 0#32
  let c1_i32_9 : BitVec 32 := 1#32
  let arg16 : BitVec 32 := Scf.iv c0_i32_8 c1_i32_9 k0_t1
  let v393 : BitVec 32 := Scalar.muli c4_i32_107 arg16
  let c3_i32_108 : BitVec 32 := 3#32
  let v394 : BitVec 32 := Scalar.addi v393 c3_i32_108
  let c4_i32_126 : BitVec 32 := 4#32
  let v486 : BitVec 32 := Scalar.addi v394 c4_i32_126
  let c128_i32_127 : BitVec 32 := 128#32
  let v487 : BitVec 1 := Scalar.cmpi .slt v486 c128_i32_127
  let v488 : BitVec 32 := Scalar.extui v487
  let c0_i32_128 : BitVec 32 := 0#32
  let v489 : BitVec 1 := Scalar.cmpi .ne v488 c0_i32_128
  v489

def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_107 : BitVec 32 := 4#32
  let c0_i32_8 : BitVec 32 := 0#32
  let c1_i32_9 : BitVec 32 := 1#32
  let arg16 : BitVec 32 := Scf.iv c0_i32_8 c1_i32_9 k0_t1
  let v393 : BitVec 32 := Scalar.muli c4_i32_107 arg16
  let c3_i32_108 : BitVec 32 := 3#32
  let v394 : BitVec 32 := Scalar.addi v393 c3_i32_108
  let v490 : BitVec 32 := Scalar.addi v2 v394
  let c4_i32_129 : BitVec 32 := 4#32
  let v491 : BitVec 32 := Scalar.addi v490 c4_i32_129
  let c16000_i32_130 : BitVec 32 := 16000#32
  ![v491.toNat, 16000]
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_45_r1 : BitVec 32 := 0#32
  ![v1.toNat, 0]
abbrev grid1 : Pipeline.Grid := ⟨2, ![16, 5], ![false, false]⟩

def k1_off1 (i : grid1.Coords) : Fin 3 → Nat :=
  let arg0 : BitVec 32 := BitVec.ofNat 32 (i 0).val
  let v5 : Index := Scalar.indexCast arg0
  let c0 : Index := 0#32
  let c0_2 : Index := 0#32
  ![v5.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x256x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "entropy" => some (((1 / 10) * (Real.log (129140163 / 106660000000000)) : ℝ) : EReal)
  | "neg_off" => some ((-1 / 319980 : ℝ) : EReal)
  | "off" => some ((1 / 319980 : ℝ) : EReal)
  | "off_sub_on" => some ((-287981 / 319980 : ℝ) : EReal)
  | _ => none
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 65
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096x32000, .f32⟩
  | .hbm, ⟨4, _⟩ => ⟨S_, .f32⟩
  | .hbm, ⟨5, _⟩ => ⟨S4096x32000, .f32⟩
  | .hbm, ⟨6, _⟩ => ⟨S4096x32000, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x1, .i32⟩
  | .hbm, ⟨29, _⟩ => ⟨S4096x2, .i32⟩
  | .hbm, ⟨30, _⟩ => ⟨S4096x32000, .f32⟩
  | .hbm, ⟨31, _⟩ => ⟨S_, .i32⟩
  | .hbm, ⟨32, _⟩ => ⟨S1, .i32⟩
  | .hbm, ⟨33, _⟩ => ⟨S_, .f32⟩
  | .hbm, ⟨34, _⟩ => ⟨S4096, .f32⟩
  | .hbm, ⟨35, _⟩ => ⟨S4096x32000, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .f32⟩
  | .hbm, ⟨40, _⟩ => ⟨S4096x32000, .f32⟩
  | .hbm, ⟨41, _⟩ => ⟨S4096x32000, .i1⟩
  | .hbm, ⟨42, _⟩ => ⟨S_, .f32⟩
  | .hbm, ⟨43, _⟩ => ⟨S_, .f32⟩
  | .hbm, ⟨44, _⟩ => ⟨S4096x32000, .f32⟩
  | .hbm, ⟨45, _⟩ => ⟨S4096x32000, .f32⟩
  | .hbm, ⟨46, _⟩ => ⟨S_, .f32⟩
  | .hbm, ⟨47, _⟩ => ⟨S4096x32000, .f32⟩
  | .hbm, ⟨48, _⟩ => ⟨S4096x32000, .i1⟩
  | .hbm, ⟨49, _⟩ => ⟨S4096x32000, .f32⟩
  | .hbm, ⟨50, _⟩ => ⟨S4096x32000, .f32⟩
  | .hbm, ⟨51, _⟩ => ⟨S_, .f32⟩
  | .hbm, ⟨52, _⟩ => ⟨S_, .f32⟩
  | .hbm, ⟨53, _⟩ => ⟨S4096x32000, .f32⟩
  | .hbm, ⟨54, _⟩ => ⟨S4096x32000, .f32⟩
  | .hbm, ⟨55, _⟩ => ⟨S4096x32000, .f32⟩
  | .hbm, ⟨56, _⟩ => ⟨S4096x32000, .f32⟩
  | .hbm, ⟨57, _⟩ => ⟨S4096x1, .i1⟩
  | .hbm, ⟨58, _⟩ => ⟨S_, .f32⟩
  | .hbm, ⟨59, _⟩ => ⟨S_, .f32⟩
  | .hbm, ⟨60, _⟩ => ⟨S4096x32000, .i1⟩
  | .hbm, ⟨61, _⟩ => ⟨S4096x32000, .f32⟩
  | .hbm, ⟨62, _⟩ => ⟨S4096x32000, .f32⟩
  | .hbm, ⟨63, _⟩ => ⟨S_, .f32⟩
  | .hbm, ⟨64, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_v12 : Ref sig .tc := ⟨.hbm, 21, rfl⟩
abbrev main_v13 : Ref sig .tc := ⟨.hbm, 22, rfl⟩
abbrev main_c_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_cst_11 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_12 : Ref sig .tc := ⟨.hbm, 51, rfl⟩
abbrev main_call1_v0 : Ref sig .tc := ⟨.hbm, 52, rfl⟩
abbrev main_call1_v1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_13 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v37 : Ref sig .tc := ⟨.hbm, 62, rfl⟩
abbrev main_cst_14 : Ref sig .tc := ⟨.hbm, 63, rfl⟩
abbrev main_v38 : Ref sig .tc := ⟨.hbm, 64, rfl⟩

abbrev nD : Nat := 1
abbrev τ : Topo := Topo.v7x

variable {F : FTy → Type} [FloatOps F]
-- ==== Proof.Base.lean ====
/-
  The program as the launch theorem of the SparseCore library sees it, the memrefs the SparseCore kernel's body is
  handed, and the value model of one tile: the sum of a row's upper 16000 columns as the body's inner loop takes it,
  the number the row of a target picks, and the two running results of the loop over a tile's 128 rows.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch: the four handshake semaphores are kept apart and none is a kernel's own. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The resource algebra: the handshakes' rounds, the staging cells' rounds and the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds: the left half of the right factor. -/
def EP : Emb UP (MT nD τ sig (HIx 1) (Elt F) ℕ UU ℕ) :=
  (Emb.inl : Emb UP (UP × Counters)).trans embR
instance EP_landsIn : (EP : Emb UP 𝕄).LandsIn (upEmb : UEmb _ 𝕄) := by unfold EP; infer_instance

/-! ## The arrays and the memrefs of the vector-subcore kernel -/

abbrev xLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v0

abbrev cV (L : grid0.Coords) : Fin τ.nSC := (L 0).castLE hcore0
abbrev jV (L : grid0.Coords) : Fin τ.nSub := (L 1).castLE hsub0
/-- The tile at grid point `L` of device `d`. -/
abbrev tile (d : Dev nD) (L : grid0.Coords) : Thread nD τ := V d (cV L) (jV L)

/-- The first of the 128 rows of tile `L`. -/
def base (L : grid0.Coords) : Nat := 256 * (L 1).val + 128 * (L 0).val

theorem base_lt (L : grid0.Coords) : base L + 128 ≤ 4096 := by
  have h0 : (L 0).val < 2 := (L 0).isLt
  have h1 : (L 1).val < 16 := (L 1).isLt
  unfold base; omega

/-! ## The value of one tile -/

variable [FloatOps F]

/-- The number zero of the program. -/
abbrev zF : F .f32 := Scalar.ofBits .f32 0x00000000#32

/-- Sixteen numbers of a row buffer from place `o` on. -/
def piece (b : S16000.Idx → F .f32) (o : Nat) : FVec F S16 .f32 :=
  fun l => if h : o + (l 0).val < 16000 then b (ix1 ⟨o + (l 0).val, h⟩) else zF

abbrev Acc4 (F : FTy → Type) : Type := FVec F S16 .f32 × FVec F S16 .f32 × FVec F S16 .f32 × FVec F S16 .f32

/-- One trip of the row sum: the 128 numbers from place `o` on join the four accumulators, two vectors each. -/
def accStep (b : S16000.Idx → F .f32) (o : Nat) (a : Acc4 F) : Acc4 F :=
  (addf (addf a.1 (piece b o)) (piece b (o + 64)),
   addf (addf a.2.1 (piece b (o + 16))) (piece b (o + 80)),
   addf (addf a.2.2.1 (piece b (o + 32))) (piece b (o + 96)),
   addf (addf a.2.2.2 (piece b (o + 48))) (piece b (o + 112)))

/-- The four accumulators after `n` trips. -/
def accs (b : S16000.Idx → F .f32) : Nat → Acc4 F
  | 0 => (broadcast S16 zF, broadcast S16 zF, broadcast S16 zF, broadcast S16 zF)
  | n + 1 => accStep b (128 * n) (accs b n)

/-- The four accumulators joined lane by lane. -/
def join4 (a : Acc4 F) : FVec F S16 .f32 := addf (addf a.1 a.2.1) (addf a.2.2.1 a.2.2.2)

abbrev lane (l : Fin 16) : S16.Idx := ix1 l

/-- The sum of a vector's first `n + 1` lanes, from the left. -/
def laneSum (v : Fin 16 → F .f32) : Nat → F .f32
  | 0 => v 0
  | n + 1 => Scalar.addf (laneSum v n) (v (Fin.ofNat 16 (n + 1)))

/-- The sum of a row buffer as the kernel takes it. -/
def rowVal (b : S16000.Idx → F .f32) : F .f32 := laneSum (fun l => join4 (accs b 125) (lane l)) 15

/-- What a row with target `t` adds to the gathered sum: in lane 0 its entry `t - 16000` when `t` is at least 16000
    (signed), zero in every other lane and for every other target. -/
def gat (b : S16000.Idx → F .f32) (t : BitVec 32) : FVec F S16 .f32 :=
  fun l => if (l 0).val = 0 ∧ (16000#32).sle t then b (ix1 (Fin.ofNat 16000 (t - 16000#32).toNat)) else zF

/-- The gathered sum after `n` rows `b 0, …, b (n-1)` with targets `t 0, …, t (n-1)`. -/
def gsum (b : Nat → S16000.Idx → F .f32) (t : Nat → BitVec 32) : Nat → FVec F S16 .f32
  | 0 => broadcast S16 zF
  | n + 1 => addf (gsum b t n) (gat (b n) (t n))

end Cert.Proof.Smooth

end
-- ==== Proof.RowSum.lean ====
/-
  The inner loop of the SparseCore kernel: 125 trips of eight loads from a row buffer, each added to one of four
  accumulators. At its end the accumulators are the value model's, the buffer as it was.
-/
module

public import proofs.«01_k».proof.Proof.Base

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-- An offset inside a row buffer leaves room for sixteen numbers. -/
abbrev Fits {n : Nat} (o : Fin n → Fin 1 → Nat) : Prop := ∀ k a, o k a + S16.size a ≤ S16000.size a

/-- The trip of the inner loop over the row buffer `b`, at the eight offsets it loads. -/
def trip (i : grid0.Coords) (b : Memref sig .scVector .vmem S16000 .f32) {n : Nat}
    (o : Fin 8 → Fin n → Fin 1 → Nat) (h : ∀ j, Fits (o j)) (k : Fin n) (a : Acc4 F) :
    Prog (TpuEff nD τ sig (Elt F) Λ₀ (.scVector (cV i) (jV i))) (Acc4 F) := do
  let v0 : Vec F S16 .f32 ← Prog.lift (.load b (Rect.unit (s := S16000) (o 0 k) S16.size (h 0 k)).toLoadRect (View.loadsAt_vmem h_S16))
  let v4 : Vec F S16 .f32 ← Prog.lift (.load b (Rect.unit (s := S16000) (o 4 k) S16.size (h 4 k)).toLoadRect (View.loadsAt_vmem h_S16))
  let v1 : Vec F S16 .f32 ← Prog.lift (.load b (Rect.unit (s := S16000) (o 1 k) S16.size (h 1 k)).toLoadRect (View.loadsAt_vmem h_S16))
  let v5 : Vec F S16 .f32 ← Prog.lift (.load b (Rect.unit (s := S16000) (o 5 k) S16.size (h 5 k)).toLoadRect (View.loadsAt_vmem h_S16))
  let v2 : Vec F S16 .f32 ← Prog.lift (.load b (Rect.unit (s := S16000) (o 2 k) S16.size (h 2 k)).toLoadRect (View.loadsAt_vmem h_S16))
  let v6 : Vec F S16 .f32 ← Prog.lift (.load b (Rect.unit (s := S16000) (o 6 k) S16.size (h 6 k)).toLoadRect (View.loadsAt_vmem h_S16))
  let v3 : Vec F S16 .f32 ← Prog.lift (.load b (Rect.unit (s := S16000) (o 3 k) S16.size (h 3 k)).toLoadRect (View.loadsAt_vmem h_S16))
  let v7 : Vec F S16 .f32 ← Prog.lift (.load b (Rect.unit (s := S16000) (o 7 k) S16.size (h 7 k)).toLoadRect (View.loadsAt_vmem h_S16))
  pure (addf (addf a.1 v0) v4, addf (addf a.2.1 v1) v5, addf (addf a.2.2.1 v2) v6, addf (addf a.2.2.2 v3) v7)

/-- A load of sixteen numbers of a row buffer is the model's piece of what the buffer reads, at the same place. -/
theorem load_piece (b : Memref sig .scVector .vmem S16000 .f32) (f : b.view.ty.Contents (Elt F)) (o : Fin 1 → Nat) (p : Nat)
    (ho : o = ![p]) (h : ∀ a, o a + S16.size a ≤ S16000.size a) :
    b.view.readAt (Elt F) (Rect.unit (s := S16000) o S16.size h).toLoadRect f = piece (b.view.read (Elt F) f) p := by
  subst ho
  funext l
  have hl : p + (l 0).val < 16000 := by
    have := h 0; have h2 : (l 0).val < 16 := (l 0).isLt
    simp [Shape.size] at this; omega
  unfold piece
  rw [dif_pos hl, View.readAt_apply]
  congr 1
  funext a
  obtain rfl : a = 0 := Subsingleton.elim _ _
  apply Fin.ext
  rw [LoadRect.idx_apply]
  show p + 1 * (l 0).val = _
  simp

/-- The offsets of a trip are the places 0, 16, …, 112 of its stretch of 128 numbers. -/
def Places {n : Nat} (o : Fin 8 → Fin n → Fin 1 → Nat) : Prop := ∀ j k, o j k = ![128 * k.val + 16 * j.val]

/-- A trip of the model over the places 0, 16, …, 112 of its stretch. -/
theorem accStep_eq (g : S16000.Idx → F .f32) (p : Nat) (a : Acc4 F) :
    accStep g p a = (addf (addf a.1 (piece g (p + 16 * (0 : Fin 8).val))) (piece g (p + 16 * (4 : Fin 8).val)),
      addf (addf a.2.1 (piece g (p + 16 * (1 : Fin 8).val))) (piece g (p + 16 * (5 : Fin 8).val)),
      addf (addf a.2.2.1 (piece g (p + 16 * (2 : Fin 8).val))) (piece g (p + 16 * (6 : Fin 8).val)),
      addf (addf a.2.2.2 (piece g (p + 16 * (3 : Fin 8).val))) (piece g (p + 16 * (7 : Fin 8).val))) := rfl

/-- One trip: the accumulators become the model's, the buffer is kept. -/
theorem trip_wp (d : Dev nD) (i : grid0.Coords) (b : Memref sig .scVector .vmem S16000 .f32) (f : b.view.ty.Contents (Elt F))
    {n : Nat} (o : Fin 8 → Fin n → Fin 1 → Nat) (h : ∀ j, Fits (o j)) (ho : Places o) (k : Fin n) (a : Acc4 F) (Q : Acc4 F → sProp 𝕄) :
    iprop((b.view.loc (tile d i) ↦{fullShare} f)
        ∗ ((b.view.loc (tile d i) ↦{fullShare} f) -∗ Q (accStep (b.view.read (Elt F) f) (128 * k.val) a)))
      ⊢ wp frame (wpE (defs₀ (F := F)) 𝒱₀ (tile d i) none) Set.univ (trip i b o h k a) Q := by
  have e : ∀ j, b.view.readAt (Elt F) (Rect.unit (s := S16000) (o j k) S16.size (h j k)).toLoadRect f
      = piece (b.view.read (Elt F) f) (128 * k.val + 16 * j.val) := fun j => load_piece b f _ _ (ho j k) _
  unfold trip
  iintro ⟨Hb, HQ⟩
  sl_exec
  sl_step
  ispecialize HQ $$ Hb
  rw [accStep_eq]
  iexact HQ

/-- Before trip `n` the accumulators are the model's after `n` trips, and the buffer is as it was. -/
abbrev rowInv (d : Dev nD) (i : grid0.Coords) (b : Memref sig .scVector .vmem S16000 .f32) (f : b.view.ty.Contents (Elt F)) (n : Nat)
    (a : Acc4 F) : sProp 𝕄 :=
  iprop(⌜a = accs (b.view.read (Elt F) f) n⌝ ∗ (b.view.loc (tile d i) ↦{fullShare} f))

/-- The inner loop: 125 trips from four zero accumulators leave the model's, the buffer is kept. -/
theorem rowLoop_wp (d : Dev nD) (i : grid0.Coords) (b : Memref sig .scVector .vmem S16000 .f32) (f : b.view.ty.Contents (Elt F))
    (l : Scf.Loop 32) (hl : l.OK) (hn : l.trips = 125) (o : Fin 8 → Fin l.trips → Fin 1 → Nat) (h : ∀ j, Fits (o j)) (ho : Places o)
    (Q : Acc4 F → sProp 𝕄) :
    iprop((b.view.loc (tile d i) ↦{fullShare} f)
        ∗ ((b.view.loc (tile d i) ↦{fullShare} f) -∗ Q (accs (b.view.read (Elt F) f) 125)))
      ⊢ wp frame (wpE (defs₀ (F := F)) 𝒱₀ (tile d i) none) Set.univ
          (Scf.Loop.for l hl (broadcast S16 zF, broadcast S16 zF, broadcast S16 zF, broadcast S16 zF) (trip i b o h)) Q := by
  have hb : ∀ (k : Fin (Scf.trips l.lb l.ub l.st)) (a : Acc4 F),
      rowInv d i b f k a
        ⊢ wp frame (wpE (defs₀ (F := F)) 𝒱₀ (tile d i) none) Set.univ (trip i b o h k a)
          (rowInv d i b f (k.val + 1)) := by
    intro k a
    iintro ⟨%ha, Hb⟩
    subst ha
    iapply (trip_wp d i b f o h ho k _ _)
    isplitl [Hb]
    · iexact Hb
    iintro Hb
    isplitr
    · ipureintro; rfl
    · iexact Hb
  iintro ⟨Hb, HQ⟩
  iapply (Scf.wp_for _ _ _ _ _ _ _ _ _ (rowInv d i b f) hb)
  isplitl [Hb]
  · isplitr
    · ipureintro; rfl
    · iexact Hb
  iintro %a ⟨%ha, Hb⟩
  subst ha
  ispecialize HQ $$ Hb
  rw [show Scf.trips l.lb l.ub l.st = 125 from hn]
  iexact HQ

end Cert.Proof.Smooth

end
-- ==== Proof.Squeeze.lean ====
module

public import proofs.«01_k».proof.Proof.RowSum
import Idealize.ShloMosaic.Lib.Pointwise.Reshape

@[expose] public section

namespace Cert.Proof.Smooth

open Idealize.ShloMosaic Cert.KernelIdeal

/-- A row vector of one row, squeezed to its `n` places: place `j` is column `j` of row 0. -/
theorem squeeze_one {n : Nat} (j : (⟨1, ![n]⟩ : Shape).Idx) (h : (⟨1, ![n]⟩ : Shape).numel = (⟨2, ![1, n]⟩ : Shape).numel) :
    Shape.reshapeEquiv (s := ⟨2, ![1, n]⟩) (s' := ⟨1, ![n]⟩) h j = (ValueIdx.ix2 (0 : Fin 1) (j 0 : Fin n) : (⟨2, ![1, n]⟩ : Shape).Idx) := by
  apply Shape.reshapeEquiv_eq_of_rowMajor
  refine (rowMajor_val2 (d := ![1, n]) _ n rfl).trans (Eq.trans ?_ (rowMajor_val1 (d := ![n]) j).symm)
  show 0 * n + (j 0).val = (j 0).val
  omega

/-- A row of 16000, squeezed. -/
theorem squeeze_row (j : S16000.Idx) (h : S16000.numel = S1x16000.numel) :
    Shape.reshapeEquiv (s := S1x16000) (s' := S16000) h j = (ValueIdx.ix2 (0 : Fin 1) (j 0 : Fin 16000) : S1x16000.Idx) :=
  squeeze_one j h

end Cert.Proof.Smooth

end
-- ==== Proof.Ring.lean ====
module

public import proofs.«01_k».proof.Proof.Squeeze

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ
abbrev xW : Memref Cert.KernelIdeal.sig Kind.scVector Space.hbm Cert.KernelIdeal.S4096x32000 EltTy.f32 := Memref.whole Cert.KernelIdeal.main_arg0_scv
abbrev tW : Memref Cert.KernelIdeal.sig Kind.scVector Space.hbm Cert.KernelIdeal.S4096 EltTy.i32 := Memref.whole Cert.KernelIdeal.main_arg1_scv
abbrev pW : Memref Cert.KernelIdeal.sig Kind.scVector Space.hbm Cert.KernelIdeal.S32x16 EltTy.f32 := Memref.whole Cert.KernelIdeal.main_v0_scv
abbrev sT : Memref Cert.KernelIdeal.sig Kind.scVector Space.vmem Cert.KernelIdeal.S128 EltTy.i32 := Memref.whole Cert.KernelIdeal.cc0_scratch0
abbrev sR : Memref Cert.KernelIdeal.sig Kind.scVector Space.vmem Cert.KernelIdeal.S128 EltTy.f32 := Memref.whole Cert.KernelIdeal.cc0_scratch1
abbrev sO : Memref Cert.KernelIdeal.sig Kind.scVector Space.vmem Cert.KernelIdeal.S16 EltTy.f32 := Memref.whole Cert.KernelIdeal.cc0_scratch2
abbrev b0 : Memref Cert.KernelIdeal.sig Kind.scVector Space.vmem Cert.KernelIdeal.S16000 EltTy.f32 := Memref.whole Cert.KernelIdeal.cc0_scratch3
abbrev b1 : Memref Cert.KernelIdeal.sig Kind.scVector Space.vmem Cert.KernelIdeal.S16000 EltTy.f32 := Memref.whole Cert.KernelIdeal.cc0_scratch4
abbrev b2 : Memref Cert.KernelIdeal.sig Kind.scVector Space.vmem Cert.KernelIdeal.S16000 EltTy.f32 := Memref.whole Cert.KernelIdeal.cc0_scratch5
abbrev b3 : Memref Cert.KernelIdeal.sig Kind.scVector Space.vmem Cert.KernelIdeal.S16000 EltTy.f32 := Memref.whole Cert.KernelIdeal.cc0_scratch6

/-! ## A row of `x` as the tile copies it -/

/-- The second half of row `R` of `x`. -/
def xrow (fx : S4096x32000.Idx → F .f32) (R : Nat) : S16000.Idx → F .f32 :=
  fun j => fx (ix2 (Fin.ofNat 4096 R) ⟨16000 + (j 0).val, by have : (j 0).val < 16000 := (j 0).isLt; omega⟩)

/-- A stretch of 16000 numbers of one row of `x` as a copy's source. -/
abbrev rowSl (off : Fin 2 → Nat) (inb : ∀ a, off a + S1x16000.size a ≤ S4096x32000.size a) : Memref sig .scVector .hbm S16000 .f32 :=
  (xW.slice (Rect.unit (s := S4096x32000) off S1x16000.size inb) (fun _ => rfl)).squeeze S16000 squeezes_S1x16000_S16000

omit [FloatOps F] [Named F] in
/-- Read through that source at row `R` and column 16000, `x` gives the second half of row `R`. -/
theorem read_rowSl (off : Fin 2 → Nat) (inb : ∀ a, off a + S1x16000.size a ≤ S4096x32000.size a) (R : Nat) (ho : off = ![R, 16000])
    (fx : S4096x32000.Idx → F .f32) : (rowSl off inb).view.read (Elt F) fx = xrow fx R := by
  subst ho
  have hR : R < 4096 := by have := inb 0; simp [Shape.size] at this; omega
  funext j
  have hj : (j 0).val < 16000 := (j 0).isLt
  show fx ((Rect.unit (s := S4096x32000) ![R, 16000] S1x16000.size inb).emb
    (Shape.reshapeEquiv (s := S1x16000) (s' := S16000) squeezes_S1x16000_S16000.numel_eq j)) = _
  rw [squeeze_row]
  unfold xrow
  congr 1
  funext a
  apply Fin.ext
  rw [Rect.emb_apply]
  match a with
  | 0 => show R + 1 * 0 = R % 4096; omega
  | 1 => show 16000 + 1 * (j 0).val = 16000 + (j 0).val; omega

/-! ## One buffer of the ring -/

/-- Row `r` of the tile is on its way into the ring buffer `b`: the transfer's cell holds the buffer, which will read the
    second half of that row, and the lent part of `x`; the rest of the share of `x` that this cell's transfers read is
    still here. -/
def inFl (d : Dev nD) (i : grid0.Coords) (b : Memref sig .scVector .vmem S16000 .f32) (sem : DmaSem sig) (n : Nat)
    (q : PosShare TreeShare) (fx : Buf (Elt F) (xLoc d)) (r : Nat) : sProp 𝕄 :=
  iprop(∃ off inb fb, ⌜off = ![base i + r, 16000] ∧ b.view.read (Elt F) fb = xrow fx (base i + r)⌝
    ∗ Transfers.Flight countersEmb (tile d i) (.dma sem) (default : HIx 1) 512000
        iprop((b.view.loc (tile d i) ↦{fullShare} fb)
          ∗ (xW.view.loc (tile d i) ↦[(rowSl off inb).view.set]{Transfers.shareTokN q n} fx))
    ∗ (xW.view.loc (tile d i) ↦[Finset.univ \ (rowSl off inb).view.set]{Transfers.shareTokN q n} fx))

/-- The ring buffer `b` is free: its contents are known (`P`), its cell is at zero, its share of `x` is whole. -/
def free (d : Dev nD) (i : grid0.Coords) (b : Memref sig .scVector .vmem S16000 .f32) (sem : DmaSem sig) (n : Nat)
    (q : PosShare TreeShare) (fx : Buf (Elt F) (xLoc d)) (P : (S16000.Idx → F .f32) → Prop) : sProp 𝕄 :=
  iprop(∃ fb, ⌜P (b.view.read (Elt F) fb)⌝ ∗ (b.view.loc (tile d i) ↦{fullShare} fb)
    ∗ semVal (tile d i, .dma sem) 0
    ∗ (xW.view.loc (tile d i) ↦{Transfers.shareTokN q n} fx))

/-- The ring buffer `b` before trip `k` of the outer loop, for the rows `4 k + s`: in flight while there is such a row. -/
def ring (d : Dev nD) (i : grid0.Coords) (b : Memref sig .scVector .vmem S16000 .f32) (sem : DmaSem sig) (n : Nat)
    (q : PosShare TreeShare) (fx : Buf (Elt F) (xLoc d)) (k : Nat) : sProp 𝕄 :=
  if k < 32 then inFl d i b sem n q fx (4 * k + n) else free d i b sem n q fx (fun _ => True)

/-- What an issued row's transfer holds is the ring buffer in flight. -/
theorem inFl_intro (d : Dev nD) (i : grid0.Coords) (b : Memref sig .scVector .vmem S16000 .f32) (sem : DmaSem sig) (n : Nat)
    (q : PosShare TreeShare) (fx : Buf (Elt F) (xLoc d)) (r : Nat) (off : Fin 2 → Nat)
    (inb : ∀ a, off a + S1x16000.size a ≤ S4096x32000.size a) (ho : off = ![base i + r, 16000]) (f : b.view.ty.Contents (Elt F)) :
    iprop((Transfers.Flight countersEmb (tile d i) (.dma sem) (default : HIx 1) 512000
        iprop((b.view.loc (tile d i) ↦{fullShare}
              b.view.write (Elt F) f (ReadAs.same.apply ((rowSl off inb).view.read (Elt F) fx)) Finset.univ)
          ∗ (xW.view.loc (tile d i) ↦[(rowSl off inb).view.set]{Transfers.shareTokN q n} fx)) : sProp 𝕄)
    ∗ (xW.view.loc (tile d i) ↦[Finset.univ \ (rowSl off inb).view.set]{Transfers.shareTokN q n} fx))
    ⊢ inFl d i b sem n q fx r := by
  unfold inFl
  iintro ⟨Hf, Hr⟩
  iexists off, inb, (b.view.write (Elt F) f (ReadAs.same.apply ((rowSl off inb).view.read (Elt F) fx)) Finset.univ)
  isplitr
  · ipureintro
    refine ⟨ho, ?_⟩
    exact (View.read_write_univ _ _).trans (read_rowSl off inb _ ho fx)
  isplitl [Hf]
  · iexact Hf
  · iexact Hr

end Cert.Proof.Smooth

end
-- ==== Proof.Words.lean ====
module

public import proofs.«01_k».proof.Proof.RowSum

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

/-! ## Words of the tile's inner step -/

omit [FloatOps F] [Named F] in
/-- One lane of a vector taken out by a slice of one and its element. -/
theorem slice_lane {α : Type} (v : S16.Idx → α) (n : Nat) (h : S16.Slices ![n] S1) (p : ∀ a, (![0] : Fin 1 → Nat) a < S1.size a)
    (hn : n < 16) : extractAt ![0] (extractStridedSlice S1 ![n] v h) p = v (lane ⟨n, hn⟩) := by
  unfold extractAt extractStridedSlice
  congr 1
  funext a
  obtain rfl : a = 0 := Subsingleton.elim _ _
  apply Fin.ext
  show n + 0 = n
  omega

/-- The sixteen lane numbers. -/
abbrev lanes : IVec S16 32 := iota Kind.scVector S16 32 [0] iota_S16_d0_w32_scVector

omit [FloatOps F] [Named F] in
theorem lanes_apply (l : S16.Idx) : lanes l = BitVec.ofNat 32 (l 0).val := by
  show BitVec.ofNat 32 (0 * 16 + (l 0).val) = _
  rw [Nat.zero_mul, Nat.zero_add]

omit [FloatOps F] [Named F] in
/-- The test "is this the lane `r`'s low four bits name". -/
theorem lane_test (r : Nat) (l : S16.Idx) :
    cmpi .eq lanes (broadcast S16 (Scalar.andi (BitVec.ofNat 32 r) 15#32)) l = 1#1 ↔ (l 0).val = r % 16 := by
  have hl : (l 0).val < 16 := (l 0).isLt
  have e : Scalar.andi (BitVec.ofNat 32 r) 15#32 = BitVec.ofNat 32 (r % 16) := by
    show BitVec.ofNat 32 r &&& 15#32 = _
    apply BitVec.eq_of_toNat_eq
    rw [BitVec.toNat_and, BitVec.toNat_ofNat, BitVec.toNat_ofNat]
    show r % 2 ^ 32 &&& (2 ^ 4 - 1) = _
    rw [Nat.and_two_pow_sub_one_eq_mod, BitVec.toNat_ofNat]
    omega
  show IntOp.cmpi .eq (lanes l) (Scalar.andi (BitVec.ofNat 32 r) 15#32) = 1#1 ↔ _
  rw [e, lanes_apply]
  show (BitVec.ofBool (BitVec.ofNat 32 (l 0).val == BitVec.ofNat 32 (r % 16))) = 1#1 ↔ _
  have : ((BitVec.ofNat 32 (l 0).val == BitVec.ofNat 32 (r % 16)) = true) ↔ (l 0).val = r % 16 := by
    rw [beq_iff_eq]
    constructor
    · intro h
      have := congrArg BitVec.toNat h
      rw [BitVec.toNat_ofNat, BitVec.toNat_ofNat] at this
      omega
    · intro h; rw [h]
  rw [← this]
  cases (BitVec.ofNat 32 (l 0).val == BitVec.ofNat 32 (r % 16)) <;> decide

/-- The target word of row `r` as the tile takes it out of its group of sixteen: the sum of the group masked to one lane. -/
def pick (v3 : IVec S16 32) (r : BitVec 32) (tg : Vec F S16 .i32) : BitVec 32 :=
  extractAt ![15] (scan .sum (select (cmpi .eq v3 (broadcast S16 (Scalar.andi r 15#32))) tg (broadcast S16 0#32) : IVec S16 32))
    inpos_S16_p15

omit [FloatOps F] [Named F] in
/-- A running sum over lanes that are zero but one ends in that one. -/
theorem scan_one (v : IVec S16 32) (k : Fin 16) (h : ∀ l : Fin 16, l ≠ k → v (lane l) = 0#32) :
    extractAt ![15] (scan .sum v) inpos_S16_p15 = v (lane k) := by
  let u : Fin 16 → BitVec 32 := fun l => v (lane l)
  have hv : v = fun l => u (l 0) := by
    funext l; show v l = v (lane (l 0)); congr 1; funext a; obtain rfl : a = 0 := Subsingleton.elim _ _; rfl
  have e : ∀ l : Fin 16, u l = if l = k then u k else 0#32 := by
    intro l; split
    · next hh => rw [hh]
    · next hh => exact h l hh
  show _ = u k
  rw [hv]
  show ((List.finRange 16).filter fun i : Fin 16 => decide (0 < i.val ∧ i.val ≤ 15)).foldl
      (fun (r : BitVec 32) i => r + u i) (u 0) = _
  have hL : ((List.finRange 16).filter fun i : Fin 16 => decide (0 < i.val ∧ i.val ≤ 15))
      = [1, 2, 3, 4, 5, 6, 7, 8, 9, 10, 11, 12, 13, 14, 15] := by decide
  rw [hL]
  clear_value u
  generalize u k = w at e ⊢
  simp only [List.foldl_cons, List.foldl_nil, e]
  fin_cases k <;> simp

omit [FloatOps F] [Named F] in
/-- The target word taken out is the group's word in the row's lane. -/
theorem pick_eq (r : Nat) (tg : Vec F S16 .i32) : pick lanes (BitVec.ofNat 32 r) tg = tg (lane (Fin.ofNat 16 r)) := by
  refine (scan_one _ (Fin.ofNat 16 r) ?_).trans ?_
  · intro l hl
    have : ¬ cmpi .eq lanes (broadcast S16 (Scalar.andi (BitVec.ofNat 32 r) 15#32)) (lane l) = 1#1 := by
      rw [lane_test]
      intro h
      exact hl (Fin.ext h)
    exact if_neg this
  · have : cmpi .eq lanes (broadcast S16 (Scalar.andi (BitVec.ofNat 32 r) 15#32)) (lane (Fin.ofNat 16 r)) = 1#1 := by
      rw [lane_test]
      rfl
    exact if_pos this

/-- The sixteen places the tile reads of its row for the target `t`: all `t - 16000`, or 0 when the target is below 16000. -/
def places (v3 : IVec S16 32) (t : BitVec 32) : IVec S16 32 :=
  addi (muli v3 (broadcast S16 0#32))
    (broadcast S16 (Scalar.select (Scalar.cmpi .sge t 16000#32) (Scalar.subi t 16000#32) 0#32))

/-- The place read for the target `t`. -/
def place (t : BitVec 32) : BitVec 32 := if (16000#32).sle t then t - 16000#32 else 0#32

omit [FloatOps F] [Named F] in
theorem sge_iff (t : BitVec 32) : Scalar.cmpi .sge t 16000#32 = 1#1 ↔ (16000#32).sle t = true := by
  show BitVec.ofBool ((16000#32).sle t) = 1#1 ↔ _
  cases (16000#32).sle t <;> decide

omit [FloatOps F] [Named F] in
theorem places_apply (v3 : IVec S16 32) (t : BitVec 32) (l : S16.Idx) : places v3 t l = place t := by
  show v3 l * 0#32 + Scalar.select (Scalar.cmpi .sge t 16000#32) (t - 16000#32) 0#32 = place t
  rw [BitVec.mul_zero, BitVec.zero_add]
  unfold place
  by_cases h : (16000#32).sle t = true
  · rw [if_pos h]; exact if_pos ((sge_iff t).mpr h)
  · rw [if_neg h]; exact if_neg (fun e => h ((sge_iff t).mp e))

omit [FloatOps F] [Named F] in
/-- A target below 32000 has its place inside the half row. -/
theorem place_lt (t : BitVec 32) (h0 : (0#32).sle t) (h1 : t.slt 32000#32) : (place t).toNat < 16000 := by
  unfold place
  split
  · next h =>
    have : t.toNat < 32000 ∧ 16000 ≤ t.toNat := by
      simp only [BitVec.sle_eq_decide, BitVec.slt_eq_decide, decide_eq_true_eq, BitVec.toInt_eq_toNat_cond] at h h0 h1
      have := t.isLt
      simp at h h0 h1
      split at h0 <;> omega
    rw [BitVec.toNat_sub]
    simp
    omega
  · decide

/-- What the row adds to the gathered sum, from the sixteen numbers read. -/
def gvec (v3 : IVec S16 32) (t : BitVec 32) (x : Vec F S16 .f32) : FVec F S16 .f32 :=
  select (andi (cmpi .eq v3 (broadcast S16 0#32)) (broadcast S16 (Scalar.cmpi .sge t 16000#32))) x (broadcast S16 zF)

omit [Named F] in
/-- It is the model's. -/
theorem gvec_eq (b : S16000.Idx → F .f32) (t : BitVec 32) (ht : (place t).toNat < 16000) (x : Vec F S16 .f32)
    (hx : ∀ l, x l = b (ix1 ⟨(place t).toNat, ht⟩)) : gvec lanes t x = gat b t := by
  funext l
  have hl : (cmpi .eq lanes (broadcast S16 0#32) l = 1#1) ↔ (l 0).val = 0 := by
    have := lane_test 0 l
    rwa [show Scalar.andi (BitVec.ofNat 32 0) 15#32 = 0#32 by decide] at this
  have key : andi (cmpi .eq lanes (broadcast S16 0#32)) (broadcast S16 (Scalar.cmpi .sge t 16000#32)) l = 1#1
      ↔ ((l 0).val = 0 ∧ (16000#32).sle t = true) := by
    rw [← hl, ← sge_iff]
    show (cmpi .eq lanes (broadcast S16 0#32) l &&& Scalar.cmpi .sge t 16000#32) = 1#1 ↔ _
    generalize cmpi .eq lanes (broadcast S16 0#32) l = u
    generalize Scalar.cmpi .sge t 16000#32 = w
    revert u w; decide
  unfold gat
  by_cases h : (l 0).val = 0 ∧ (16000#32).sle t = true
  · rw [if_pos h]
    refine (if_pos (key.mpr h)).trans ?_
    rw [hx]
    congr 2
    apply Fin.ext
    show _ = (t - 16000#32).toNat % 16000
    have : place t = t - 16000#32 := if_pos h.2
    simp only [this] at ht ⊢
    exact (Nat.mod_eq_of_lt ht).symm
  · rw [if_neg h]
    exact if_neg fun e => h (key.mp e)

omit [FloatOps F] [Named F] in
/-- The row number in its word. -/
theorem row_word (k s : Nat) : Scalar.addi (Scalar.muli 4#32 (Scf.iv 0#32 1#32 k)) (BitVec.ofNat 32 s) = BitVec.ofNat 32 (4 * k + s) := by
  show 4#32 * (0#32 + BitVec.ofNat 32 k * 1#32) + BitVec.ofNat 32 s = _
  rw [BitVec.zero_add, BitVec.mul_one, BitVec.ofNat_add, BitVec.ofNat_mul]

end Cert.Proof.Smooth

end
-- ==== Proof.Trips.lean ====
module

public import proofs.«01_k».proof.Proof.Ring
public import proofs.«01_k».proof.Proof.Words

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-! ## The four inner loops are one -/

/-- The eight places of a trip from the two offsets the program computes: its first, and the first plus a multiple of 16. -/
def offs {n : Nat} (o1 : Fin n → Fin 1 → Nat) (o2 : Fin n → BitVec 32 → Fin 1 → Nat) : Fin 8 → Fin n → Fin 1 → Nat
  | 0, k => o1 k
  | 1, k => o2 k 16#32
  | 2, k => o2 k 32#32
  | 3, k => o2 k 48#32
  | 4, k => o2 k 64#32
  | 5, k => o2 k 80#32
  | 6, k => o2 k 96#32
  | 7, k => o2 k 112#32

omit [FloatOps F] [Named F] in
theorem offs_fits {n : Nat} (o1 : Fin n → Fin 1 → Nat) (o2 : Fin n → BitVec 32 → Fin 1 → Nat)
    (h1 : ∀ k a, o1 k a + S16.size a ≤ S16000.size a)
    (h2 : ∀ k (r : Fin 7) a, o2 k (BitVec.ofNat 32 (16 + 16 * r)) a + S16.size a ≤ S16000.size a) : ∀ j, Fits (offs o1 o2 j)
  | 0 => fun k a => h1 k a
  | 1 => fun k a => h2 k 0 a
  | 2 => fun k a => h2 k 1 a
  | 3 => fun k a => h2 k 2 a
  | 4 => fun k a => h2 k 3 a
  | 5 => fun k a => h2 k 4 a
  | 6 => fun k a => h2 k 5 a
  | 7 => fun k a => h2 k 6 a

omit [FloatOps F] [Named F] in
theorem offs_places {n : Nat} (o1 : Fin n → Fin 1 → Nat) (o2 : Fin n → BitVec 32 → Fin 1 → Nat)
    (h1 : ∀ k, o1 k = ![128 * k.val])
    (h2 : ∀ k (r : Fin 7), o2 k (BitVec.ofNat 32 (16 + 16 * r)) = ![128 * k.val + 16 * r.val + 16]) : Places (offs o1 o2)
  | 0 => fun k => (h1 k).trans (congrArg (fun z => ![z]) (by simp))
  | 1 => fun k => (h2 k 0).trans (congrArg (fun z => ![z]) (by simp))
  | 2 => fun k => (h2 k 1).trans (congrArg (fun z => ![z]) (by simp))
  | 3 => fun k => (h2 k 2).trans (congrArg (fun z => ![z]) (by simp))
  | 4 => fun k => (h2 k 3).trans (congrArg (fun z => ![z]) (by simp))
  | 5 => fun k => (h2 k 4).trans (congrArg (fun z => ![z]) (by simp))
  | 6 => fun k => (h2 k 5).trans (congrArg (fun z => ![z]) (by simp))
  | 7 => fun k => (h2 k 6).trans (congrArg (fun z => ![z]) (by simp))

section bodies
variable (i : grid0.Coords) (arg2 : Memref sig .scVector .hbm S4096x32000 .f32) (harg2 : arg2.IsWhole) (arg3 : Memref sig .scVector .hbm S4096 .i32) (harg3 : arg3.IsWhole) (arg4 : Memref sig .scVector .hbm S32x16 .f32) (harg4 : arg4.IsWhole) (arg5 : Memref sig .scVector .vmem S128 .i32) (harg5 : arg5.IsWhole) (arg6 : Memref sig .scVector .vmem S128 .f32) (harg6 : arg6.IsWhole) (arg7 : Memref sig .scVector .vmem S16 .f32) (harg7 : arg7.IsWhole) (arg8 : Memref sig .scVector .vmem S16000 .f32) (harg8 : arg8.IsWhole) (arg9 : Memref sig .scVector .vmem S16000 .f32) (harg9 : arg9.IsWhole) (arg10 : Memref sig .scVector .vmem S16000 .f32) (harg10 : arg10.IsWhole) (arg11 : Memref sig .scVector .vmem S16000 .f32) (harg11 : arg11.IsWhole) (arg12 : DmaSems sig S_) (arg13 : DmaSems sig S_) (arg14 : DmaSems sig S_) (arg15 : DmaSems sig S_) (v102_r0 : DmaSems sig S_) (v102_r1 : DmaSems sig S_)

/-- The first inner loop's trip. -/
theorem t2_eq (c0 c1 : BitVec 32) (t : Fin k0_t1_loop.trips) :
    k0_t2_body (F := F) i arg2 harg2 arg3 harg3 arg4 harg4 arg5 harg5 arg6 harg6 arg7 harg7 arg8 harg8 arg9 harg9 arg10 harg10 arg11 harg11
        arg12 arg13 arg14 arg15 v102_r0 v102_r1 c0 c1 t
      = trip i arg8 (offs k0_off3 k0_off4) (offs_fits _ _ k0_off3_inb k0_off4_inb) := rfl

/-- The second inner loop's trip. -/
theorem t3_eq (v2 : BitVec 32) (t : Fin k0_t1_loop.trips) (a b : BitVec 32) (c : BitVec 1) :
    k0_t3_body (F := F) i arg2 harg2 arg3 harg3 arg4 harg4 arg5 harg5 arg6 harg6 arg7 harg7 arg8 harg8 arg9 harg9 arg10 harg10 arg11 harg11
        arg12 arg13 arg14 arg15 v102_r0 v102_r1 v2 t a b c
      = trip i arg9 (offs k0_off8 k0_off9) (offs_fits _ _ k0_off8_inb k0_off9_inb) := rfl

/-- The third inner loop's trip. -/
theorem t4_eq (v2 : BitVec 32) (t : Fin k0_t1_loop.trips) (a b c : BitVec 32) :
    k0_t4_body (F := F) i arg2 harg2 arg3 harg3 arg4 harg4 arg5 harg5 arg6 harg6 arg7 harg7 arg8 harg8 arg9 harg9 arg10 harg10 arg11 harg11
        arg12 arg13 arg14 arg15 v102_r0 v102_r1 v2 t a b c
      = trip i arg10 (offs k0_off12 k0_off13) (offs_fits _ _ k0_off12_inb k0_off13_inb) := rfl

/-- The fourth inner loop's trip. -/
theorem t5_eq (v2 : BitVec 32) (t : Fin k0_t1_loop.trips) (a b : BitVec 32) (c : FVec F S16 .f32) :
    k0_t5_body (F := F) i arg2 harg2 arg3 harg3 arg4 harg4 arg5 harg5 arg6 harg6 arg7 harg7 arg8 harg8 arg9 harg9 arg10 harg10 arg11 harg11
        arg12 arg13 arg14 arg15 v102_r0 v102_r1 v2 t a b c
      = trip i arg11 (offs k0_off16 k0_off17) (offs_fits _ _ k0_off16_inb k0_off17_inb) := rfl
end bodies

end Cert.Proof.Smooth

end
-- ==== Proof.Frag.lean ====
module

public import Idealize.ShloMosaic.Lib.WritesUnit
public import proofs.«01_k».proof.Proof.Trips

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-! ## Waiting for a row and summing it -/

/-- What the tile owes after some waits on its own copies: the same, with only waits of that kind recorded since `W`. -/
abbrev owed (d : Dev nD) (i : grid0.Coords) (O : CellTallies nD τ sig (HIx 1)) (W : Waits sig (HIx 1)) : sProp 𝕄 :=
  iprop(∃ W', ⌜∀ p ∈ W', p ∈ W ∨ p.2 = none⌝ ∗ owes (tile d i) O W')

/-- The wait for the ring buffer `b` and the loop that sums it. -/
def rowFrag (i : grid0.Coords) (b : Memref sig .scVector .vmem S16000 .f32) (hb : b.IsWhole) (sem : DmaSems sig S_)
    (l : Scf.Loop 32) (hl : l.OK) (o : Fin 8 → Fin l.trips → Fin 1 → Nat) (h : ∀ j, Fits (o j)) :
    Prog (TpuEff nD τ sig (Elt F) Λ₀ (.scVector (cV i) (jV i))) (Acc4 F) := do
  Prog.lift (.waitDma2 sem.sem (rowSl ![0, 16000] inb_S4096x32000_S1x16000_0_16000) b ((View.wordExact_bits rfl).reshape _ _) hb.wordExact)
  Scf.Loop.for l hl (broadcast S16 zF, broadcast S16 zF, broadcast S16 zF, broadcast S16 zF) (trip i b o h)

/-- A row in flight is waited for and summed: its buffer is free again and still reads the row. -/
theorem rowFrag_wp (d : Dev nD) (i : grid0.Coords) (b : Memref sig .scVector .vmem S16000 .f32) (hb : b.IsWhole) (sem : DmaSems sig S_)
    (l : Scf.Loop 32) (hl : l.OK) (hn : l.trips = 125) (o : Fin 8 → Fin l.trips → Fin 1 → Nat) (h : ∀ j, Fits (o j)) (ho : Places o)
    (n : Nat) (q : PosShare TreeShare) (fx : Buf (Elt F) (xLoc d)) (r : Nat)
    (O : CellTallies nD τ sig (HIx 1)) (W : Waits sig (HIx 1)) (Q : Acc4 F → sProp 𝕄) :
    iprop(Transfers.MayWaits (tile d i) none O ∗ inFl d i b sem.sem n q fx r ∗ owed d i O W
        ∗ ((free d i b sem.sem n q fx (fun g => g = xrow fx (base i + r)) ∗ owed d i O W) -∗ Q (accs (xrow fx (base i + r)) 125)))
      ⊢ wp frame (wpE (defs₀ (F := F)) 𝒱₀ (tile d i) none) Set.univ (rowFrag i b hb sem l hl o h) Q := by
  unfold inFl free rowFrag
  iintro ⟨#Hmw, ⟨%off, %inb, %fb, %hfb, Hf, Hx⟩, ⟨%W', %hW', HO⟩, HQ⟩
  obtain ⟨_, hfb⟩ := hfb
  sl_exec
  iapply (rowLoop_wp d i b fb l hl hn o h ho)
  isplitl [Hf_dst]
  · iexact Hf_dst
  iintro Hb
  rw [hfb]
  iapply HQ
  isplitl [Hb Hf Hx]
  · iexists fb
    isplitr
    · ipureintro; exact hfb
    isplitl [Hb]
    · iexact Hb
    isplitl [Hf]
    · iexact Hf
    · iexact Hx
  iexists _
  isplitr
  swap
  · iexact HO
  ipureintro
  intro p hp
  rcases Finset.mem_insert.mp hp with rfl | hp
  · exact .inr rfl
  · exact hW' p hp

/-- The issue of a later row into the ring buffer `b`, if there is one. -/
def issueFrag (i : grid0.Coords) (b : Memref sig .scVector .vmem S16000 .f32) (hb : b.IsWhole) (sem : DmaSems sig S_) (c : BitVec 1)
    (off : Fin 2 → Nat) (inb : c = 1#1 → ∀ a, off a + S1x16000.size a ≤ S4096x32000.size a) :
    Prog (TpuEff nD τ sig (Elt F) Λ₀ (.scVector (cV i) (jV i))) PUnit :=
  if h : c = 1#1 then do
    Prog.lift (.enqueueDma (rowSl off (inb h)) (.here b) (.dma sem.sem) ((View.wordExact_bits rfl).reshape _ _) hb.wordExact ⟨Or.inl rfl, trivial⟩)
    pure ⟨⟩
  else pure ⟨⟩

/-- From a free buffer the issue leaves the buffer in flight for the next trip's row, or free after the last trip. -/
theorem issueFrag_wp (d : Dev nD) (i : grid0.Coords) (b : Memref sig .scVector .vmem S16000 .f32) (hb : b.IsWhole) (sem : DmaSems sig S_)
    (c : BitVec 1) (off : Fin 2 → Nat) (inb : c = 1#1 → ∀ a, off a + S1x16000.size a ≤ S4096x32000.size a)
    (n k : Nat) (hc : c = 1#1 ↔ k < 32) (ho : off = ![base i + (4 * k + n), 16000])
    (q : PosShare TreeShare) (fx : Buf (Elt F) (xLoc d)) (P : (S16000.Idx → F .f32) → Prop) (Q : PUnit → sProp 𝕄) :
    iprop(free d i b sem.sem n q fx P ∗ (ring d i b sem.sem n q fx k -∗ Q ⟨⟩))
      ⊢ wp frame (wpE (defs₀ (F := F)) 𝒱₀ (tile d i) none) Set.univ (issueFrag i b hb sem c off inb) Q := by
  unfold free issueFrag ring
  iintro ⟨⟨%fb, %hfb, Hb, Hs, Hx⟩, HQ⟩
  by_cases h : c = 1#1
  · rw [if_pos (hc.mp h)]
    sl_exec
    sl_step
    iapply HQ
    iapply (inFl_intro d i b sem.sem n q fx (4 * k + n) off (inb h) ho fb)
    isplitl [Hs]
    · iexact Hs
    · iexact Hx
  · rw [if_neg (fun e => h (hc.mpr e))]
    sl_exec
    sl_step
    iapply HQ
    unfold free
    iexists fb
    isplitr
    · ipureintro; trivial
    isplitl [Hb]
    · iexact Hb
    isplitl [Hs]
    · iexact Hs
    · iexact Hx

/-- What the gather of one row reads: the group of sixteen targets and the sixteen numbers at the row's place. -/
def gatherFrag (i : grid0.Coords) (a5 : Memref sig .scVector .vmem S128 .i32) (b : Memref sig .scVector .vmem S16000 .f32)
    (P : IVec S16 32 → Prop) (dec : ∀ v, Decidable (P v))
    (hP : ∀ v, P v → ∀ a x, ((![v] : Fin 1 → IVec S16 32) a x).toNat < S16000.size a)
    (off : Fin 1 → Nat) (inb : ∀ a, off a + S16.size a ≤ S128.size a) (v3 : IVec S16 32) (r : BitVec 32) :
    Prog (TpuEff nD τ sig (Elt F) Λ₀ (.scVector (cV i) (jV i))) (Vec F S16 .i32 × Vec F S16 .f32) := do
  let tg : Vec F S16 .i32 ← Prog.lift (.load a5 (Rect.unit (s := S128) off S16.size inb).toLoadRect (View.loadsAt_vmem h_S16))
  have hw : P (places v3 (pick v3 r tg)) := (← Prog.lift (TpuEff.assume (P (places v3 (pick v3 r tg))) (dec _))).down
  let x : Vec F S16 .f32 ← SparseCore.vectorLoadIdx b ![places v3 (pick v3 r tg)] (hP _ hw) (View.loads_vmem h_S16000)
  pure (tg, x)

omit [FloatOps F] [Named F] in
/-- The word a load of sixteen targets from place `p` has in the lane of row `R` is the target of row `R`. -/
theorem load_tgt (a5 : Memref sig .scVector .vmem S128 .i32) (gT : a5.view.ty.Contents (Elt F)) (off : Fin 1 → Nat)
    (inb : ∀ a, off a + S16.size a ≤ S128.size a) (p R : Nat) (ho : off = ![p]) (hp : p + R % 16 = R) (hR : R < 128) :
    a5.view.readAt (Elt F) (Rect.unit (s := S128) off S16.size inb).toLoadRect gT (lane (Fin.ofNat 16 R))
      = a5.view.read (Elt F) gT (ix1 ⟨R, hR⟩) := by
  subst ho
  rw [View.readAt_apply]
  congr 1
  funext a
  obtain rfl : a = 0 := Subsingleton.elim _ _
  apply Fin.ext
  rw [LoadRect.idx_apply]
  show p + 1 * (R % 16) = R
  omega

/-- The gather of row `R`: what it adds to the gathered sum is the model's. -/
theorem gatherFrag_wp (d : Dev nD) (i : grid0.Coords) (a5 : Memref sig .scVector .vmem S128 .i32)
    (b : Memref sig .scVector .vmem S16000 .f32)
    (P : IVec S16 32 → Prop) (dec : ∀ v, Decidable (P v))
    (hP : ∀ v, P v → ∀ a x, ((![v] : Fin 1 → IVec S16 32) a x).toNat < S16000.size a)
    (hP' : ∀ v, (∀ x, (v x).toNat < 16000) → P v)
    (off : Fin 1 → Nat) (inb : ∀ a, off a + S16.size a ≤ S128.size a) (p R : Nat) (ho : off = ![p]) (hp : p + R % 16 = R) (hR : R < 128)
    (gT : a5.view.ty.Contents (Elt F)) (fb : b.view.ty.Contents (Elt F))
    (h0 : (0#32).sle (a5.view.read (Elt F) gT (ix1 ⟨R, hR⟩))) (h1 : (a5.view.read (Elt F) gT (ix1 ⟨R, hR⟩)).slt 32000#32)
    (Q : Vec F S16 .i32 × Vec F S16 .f32 → sProp 𝕄) :
    iprop((a5.view.loc (tile d i) ↦{fullShare} gT) ∗ (b.view.loc (tile d i) ↦{fullShare} fb)
        ∗ (∀ z, ⌜gvec lanes (pick lanes (BitVec.ofNat 32 R) z.1) z.2 = gat (b.view.read (Elt F) fb) (a5.view.read (Elt F) gT (ix1 ⟨R, hR⟩))⌝
            -∗ (a5.view.loc (tile d i) ↦{fullShare} gT) -∗ (b.view.loc (tile d i) ↦{fullShare} fb) -∗ Q z))
      ⊢ wp frame (wpE (defs₀ (F := F)) 𝒱₀ (tile d i) none) Set.univ
          (gatherFrag i a5 b P dec hP off inb lanes (BitVec.ofNat 32 R)) Q := by
  unfold gatherFrag
  iintro ⟨HT, Hb, HQ⟩
  sl_exec
  generalize hz : a5.view.readAt (Elt F) (Rect.unit (s := S128) off S16.size inb).toLoadRect gT = tg
  generalize ht : a5.view.read (Elt F) gT (ix1 ⟨R, hR⟩) = t at h0 h1
  have e : pick lanes (BitVec.ofNat 32 R) tg = t := by
    rw [pick_eq, ← hz, ← ht]
    exact load_tgt a5 gT off inb p R ho hp hR
  have hl : (place t).toNat < 16000 := place_lt t h0 h1
  have hchk : P (places lanes (pick lanes (BitVec.ofNat 32 R) tg)) := hP' _ fun x => by rw [places_apply, e]; exact hl
  rw [wp_assume_of _ _ _ _ hchk]
  dsimp only
  iapply (SparseCore.wp_vectorLoadIdx 𝒱₀ (tile d i) none Set.univ (base := b) (S := Finset.univ) (q := fullShare) (f := fb)
    (Finset.subset_univ _)) $$ Hb
  iintro Hb
  sl_step
  iapply HQ $$ [] HT Hb
  ipureintro
  refine (congrArg (fun u => gvec lanes u _) e).trans (gvec_eq _ t hl _ fun l => ?_)
  show b.view.read (Elt F) fb ((Rect.whole S16000).emb (fun a => ⟨_, _⟩)) = _
  congr 1
  funext a
  obtain rfl : a = 0 := Subsingleton.elim _ _
  apply Fin.ext
  rw [Rect.emb_apply]
  show 0 + 1 * (places lanes (pick lanes (BitVec.ofNat 32 R) tg) l).toNat = (place t).toNat
  rw [places_apply, e]
  omega

/-! ## The row sums put by -/

/-- The first `n` row sums put by are `vals 0, …, vals (n - 1)`. -/
def Known (g : S128.Idx → F .f32) (vals : Nat → F .f32) (n : Nat) : Prop := ∀ r (h : r < 128), r < n → g (ix1 ⟨r, h⟩) = vals r

/-- A group of sixteen row sums with the sum `v` in the lane of row `r`. -/
def putv (v3 : IVec S16 32) (r : BitVec 32) (v : F .f32) (old : Vec F S16 .f32) : FVec F S16 .f32 :=
  select (cmpi .eq v3 (broadcast S16 (Scalar.andi r 15#32))) (broadcast S16 v) old

/-- The store of a group (the program loads the group once more before it, and does not use that). -/
def putFrag (i : grid0.Coords) (a6 : Memref sig .scVector .vmem S128 .f32) (off : Fin 1 → Nat)
    (inb : ∀ a, off a + S16.size a ≤ S128.size a) (w : FVec F S16 .f32) :
    Prog (TpuEff nD τ sig (Elt F) Λ₀ (.scVector (cV i) (jV i))) PUnit := do
  let _ : Vec F S16 .f32 ← Prog.lift (.load a6 (Rect.unit (s := S128) off S16.size inb).toLoadRect (View.loadsAt_vmem h_S16))
  Prog.lift (.store a6 (Rect.unit (s := S128) off S16.size inb) w Finset.univ (View.stores_vmem_bits_univ h_S16 rfl) (.inl rfl))

omit [Named F] in
/-- A store of the group with row `R`'s sum in its lane leaves one more row sum known. -/
theorem known_put (a6 : Memref sig .scVector .vmem S128 .f32) (off : Fin 1 → Nat)
    (inb : ∀ a, off a + S16.size a ≤ S128.size a) (p R : Nat) (ho : off = ![p]) (hp : p + R % 16 = R)
    (f6 : a6.view.ty.Contents (Elt F)) (vals : Nat → F .f32) (hk : Known (a6.view.read (Elt F) f6) vals R)
    (w : FVec F S16 .f32)
    (hw : w = putv lanes (BitVec.ofNat 32 R) (vals R) (a6.view.readAt (Elt F) (Rect.unit (s := S128) off S16.size inb).toLoadRect f6)) :
    Known (a6.view.read (Elt F) (a6.view.writes (Elt F) f6 [⟨Rect.unit (s := S128) off S16.size inb, w⟩])) vals (R + 1) := by
  intro r h hr
  by_cases hpr : p ≤ r
  · have hlt : r - p < 16 := by omega
    rw [View.read_writes_cons_unit_of_mem a6.view f6 inb w [] (ix1 ⟨r, h⟩) (lane ⟨r - p, hlt⟩) ho
      (fun a => by obtain rfl : a = 0 := Subsingleton.elim _ _; show r = p + (r - p); omega)]
    rw [hw]
    by_cases hrR : r = R
    · subst hrR
      exact if_pos ((lane_test r _).mpr (by show r - p = r % 16; omega))
    · refine (if_neg fun e => ?_).trans (Eq.trans ?_ (hk r h (by omega)))
      · have : r - p = R % 16 := (lane_test R _).mp e
        omega
      · subst ho
        rw [View.readAt_apply]
        congr 1
        funext a
        obtain rfl : a = 0 := Subsingleton.elim _ _
        apply Fin.ext
        rw [LoadRect.idx_apply]
        show p + 1 * (r - p) = r
        omega
  · rw [View.read_writes_cons_unit_of_not_mem a6.view f6 inb w [] (ix1 ⟨r, h⟩) ho 0 (.inl (by show r < p; omega))]
    exact hk r h (by omega)

/-- The group stored with row `R`'s sum in its lane: one more row sum is put by. -/
theorem putFrag_wp (d : Dev nD) (i : grid0.Coords) (a6 : Memref sig .scVector .vmem S128 .f32) (off : Fin 1 → Nat)
    (inb : ∀ a, off a + S16.size a ≤ S128.size a) (p R : Nat) (ho : off = ![p]) (hp : p + R % 16 = R) (hR : R < 128)
    (f6 : a6.view.ty.Contents (Elt F)) (vals : Nat → F .f32) (hk : Known (a6.view.read (Elt F) f6) vals R)
    (w : FVec F S16 .f32)
    (hw : w = putv lanes (BitVec.ofNat 32 R) (vals R) (a6.view.readAt (Elt F) (Rect.unit (s := S128) off S16.size inb).toLoadRect f6))
    (Q : PUnit → sProp 𝕄) :
    iprop((a6.view.loc (tile d i) ↦{fullShare} f6)
        ∗ (∀ f6', ⌜Known (a6.view.read (Elt F) f6') vals (R + 1)⌝ -∗ (a6.view.loc (tile d i) ↦{fullShare} f6') -∗ Q ⟨⟩))
      ⊢ wp frame (wpE (defs₀ (F := F)) 𝒱₀ (tile d i) none) Set.univ (putFrag i a6 off inb w) Q := by
  unfold putFrag
  iintro ⟨H6, HQ⟩
  sl_exec
  sl_step
  iapply HQ $$ [] H6
  ipureintro
  exact known_put a6 off inb p R ho hp f6 vals hk w hw

end Cert.Proof.Smooth

end
-- ==== Proof.Body.lean ====
module

public import proofs.«01_k».proof.Proof.Frag

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-- Two sequences with one beginning are equal when their continuations are. -/
theorem bind_congr' {E : Type → Type _} {α β : Type} (p : Prog E α) {f g : α → Prog E β} (h : ∀ a, f a = g a) : (p >>= f) = (p >>= g) :=
  congrArg (fun f => p >>= f) (funext h)

/-- The step of one row: wait for it and sum it, gather at its target, put its sum by, issue the buffer's next row. -/
def stepFrag (i : grid0.Coords) (a5 : Memref sig .scVector .vmem S128 .i32) (a6 : Memref sig .scVector .vmem S128 .f32)
    (b : Memref sig .scVector .vmem S16000 .f32) (hb : b.IsWhole) (sem : DmaSems sig S_)
    (l : Scf.Loop 32) (hl : l.OK) (o : Fin 8 → Fin l.trips → Fin 1 → Nat) (h : ∀ j, Fits (o j))
    (P : IVec S16 32 → Prop) (dec : ∀ v, Decidable (P v))
    (hP : ∀ v, P v → ∀ a x, ((![v] : Fin 1 → IVec S16 32) a x).toNat < S16000.size a)
    (off5 : Fin 1 → Nat) (inb5 : ∀ a, off5 a + S16.size a ≤ S128.size a)
    (off6 : Fin 1 → Nat) (inb6 : ∀ a, off6 a + S16.size a ≤ S128.size a)
    (w : Acc4 F → Vec F S16 .f32 → FVec F S16 .f32)
    (c : BitVec 1) (offI : Fin 2 → Nat) (inbI : c = 1#1 → ∀ a, offI a + S1x16000.size a ≤ S4096x32000.size a)
    (r : BitVec 32) (acc : FVec F S16 .f32) :
    Prog (TpuEff nD τ sig (Elt F) Λ₀ (.scVector (cV i) (jV i))) (FVec F S16 .f32) :=
  rowFrag i b hb sem l hl o h >>= fun a =>
  gatherFrag i a5 b P dec hP off5 inb5 lanes r >>= fun z =>
  (Prog.lift (.load a6 (Rect.unit (s := S128) off6 S16.size inb6).toLoadRect (View.loadsAt_vmem h_S16)) : Prog _ (Vec F S16 .f32)) >>= fun old =>
  putFrag i a6 off6 inb6 (w a old) >>= fun _ =>
  issueFrag i b hb sem c offI inbI >>= fun _ =>
  pure (addf acc (gvec lanes (pick lanes r z.1) z.2))

section parts
variable (i : grid0.Coords) (arg3 : Memref sig .scVector .hbm S4096 .i32) (harg3 : arg3.IsWhole) (arg4 : Memref sig .scVector .hbm S32x16 .f32) (harg4 : arg4.IsWhole) (arg5 : Memref sig .scVector .vmem S128 .i32) (harg5 : arg5.IsWhole) (arg6 : Memref sig .scVector .vmem S128 .f32) (harg6 : arg6.IsWhole) (arg7 : Memref sig .scVector .vmem S16 .f32) (harg7 : arg7.IsWhole) (arg8 : Memref sig .scVector .vmem S16000 .f32) (harg8 : arg8.IsWhole) (arg9 : Memref sig .scVector .vmem S16000 .f32) (harg9 : arg9.IsWhole) (arg10 : Memref sig .scVector .vmem S16000 .f32) (harg10 : arg10.IsWhole) (arg11 : Memref sig .scVector .vmem S16000 .f32) (harg11 : arg11.IsWhole) (arg12 : DmaSems sig S_) (arg13 : DmaSems sig S_) (arg14 : DmaSems sig S_) (arg15 : DmaSems sig S_) (v102_r0 : DmaSems sig S_) (v102_r1 : DmaSems sig S_)

/-- Part 1 of the trip, as the fragments it consists of. -/
theorem part1_eq (c0 c1 : BitVec 32) (t : Fin k0_t1_loop.trips) :
    k0_part1 (F := F) i xW (Memref.isWhole_whole _) arg3 harg3 arg4 harg4 arg5 harg5 arg6 harg6 arg7 harg7 arg8 harg8 arg9 harg9 arg10 harg10 arg11 harg11
        arg12 arg13 arg14 arg15 v102_r0 v102_r1 c0 c1 t
      = rowFrag i arg8 harg8 arg12 k0_t2_loop k0_t2_ok (offs k0_off3 k0_off4) (offs_fits _ _ k0_off3_inb k0_off4_inb) >>= fun a =>
        pure ⟨Scf.iv c0 c1 t, Scalar.addi (Scalar.muli 4#32 (Scf.iv c0 c1 t)) 0#32,
          k0_pay6 a.1 a.2.1 a.2.2.1 a.2.2.2, k0_pay7 a.1 a.2.1 a.2.2.1 a.2.2.2, k0_pay8 a.1 a.2.1 a.2.2.1 a.2.2.2⟩ := by
  rw [k0_part1_eq_skeleton]
  rfl

/-- Part 3 of the trip, as the fragments it consists of. -/
theorem part3_eq (v2 : BitVec 32) (t : Fin k0_t1_loop.trips) (a16 a103 : BitVec 32) (c : BitVec 1) :
    k0_part3 (F := F) i xW (Memref.isWhole_whole _) arg3 harg3 arg4 harg4 arg5 harg5 arg6 harg6 arg7 harg7 arg8 harg8 arg9 harg9 arg10 harg10 arg11 harg11
        arg12 arg13 arg14 arg15 v102_r0 v102_r1 v2 t a16 a103 c
      = issueFrag i arg8 harg8 arg12 (k0_cond1 t) (k0_off7 i t) (k0_off7_inb i t) >>= fun _ =>
        rowFrag i arg9 harg9 arg13 k0_t3_loop k0_t3_ok (offs k0_off8 k0_off9) (offs_fits _ _ k0_off8_inb k0_off9_inb) >>= fun a =>
        pure ⟨Scalar.addi (Scalar.muli 4#32 a16) 1#32,
          k0_pay17 a.1 a.2.1 a.2.2.1 a.2.2.2, k0_pay18 a.1 a.2.1 a.2.2.1 a.2.2.2, k0_pay19 a.1 a.2.1 a.2.2.1 a.2.2.2⟩ := by
  rw [k0_part3_eq_skeleton]
  unfold k0_part3_skel issueFrag
  by_cases h : k0_cond1 t = 1#1
  · rw [dif_pos h, dif_pos h]
    rfl
  · rw [dif_neg h, dif_neg h]
    rfl

/-- Part 2 of the trip, as the fragments it consists of. -/
theorem part2_eq (t : Fin k0_t1_loop.trips) (acc : FVec F S16 .f32) (r : BitVec 32) (v : FVec F S16 .f32) (p : F .f32) (s : FVec F S1 .f32) :
    k0_part2 (F := F) i xW (Memref.isWhole_whole _) arg3 harg3 arg4 harg4 arg5 harg5 arg6 harg6 arg7 harg7 arg8 harg8 arg9 harg9 arg10 harg10 arg11 harg11
        arg12 arg13 arg14 arg15 v102_r0 v102_r1 lanes t acc r v p s
      = gatherFrag i arg5 arg8 k0_chk1 k0_chk1.dec k0_idx1_inb (k0_off5 t) (k0_off5_inb t) lanes r >>= fun z =>
        (Prog.lift (.load arg6 (Rect.unit (s := S128) (k0_off6 t 0#32) S16.size (k0_off6_inb t 0)).toLoadRect (View.loadsAt_vmem h_S16)) : Prog _ (Vec F S16 .f32)) >>= fun old =>
        putFrag i arg6 (k0_off6 t 0#32) (k0_off6_inb t 0) (k0_pay11 lanes r v p s old) >>= fun _ =>
        pure ⟨addf acc (gvec lanes (pick lanes r z.1) z.2), Scalar.cmpi .slt (Scalar.addi r 4#32) 128#32⟩ := by
  rw [k0_part2_eq_skeleton]
  rfl

/-- Part 4 of the trip, as the fragments it consists of. -/
theorem part4_eq (t : Fin k0_t1_loop.trips) (acc : FVec F S16 .f32) (r : BitVec 32) (v : FVec F S16 .f32) (p : F .f32) (s : FVec F S1 .f32) :
    k0_part4 (F := F) i xW (Memref.isWhole_whole _) arg3 harg3 arg4 harg4 arg5 harg5 arg6 harg6 arg7 harg7 arg8 harg8 arg9 harg9 arg10 harg10 arg11 harg11
        arg12 arg13 arg14 arg15 v102_r0 v102_r1 lanes t acc r v p s
      = gatherFrag i arg5 arg9 k0_chk2 k0_chk2.dec k0_idx2_inb (k0_off6 t 1#32) (k0_off6_inb t 1) lanes r >>= fun z =>
        (Prog.lift (.load arg6 (Rect.unit (s := S128) (k0_off10 t 1#32) S16.size (k0_off10_inb t 0)).toLoadRect (View.loadsAt_vmem h_S16)) : Prog _ (Vec F S16 .f32)) >>= fun old =>
        putFrag i arg6 (k0_off10 t 1#32) (k0_off10_inb t 0) (k0_pay22 lanes r v p s old) >>= fun _ =>
        pure ⟨addf acc (gvec lanes (pick lanes r z.1) z.2), 4#32⟩ := by
  rw [k0_part4_eq_skeleton]
  rfl

/-- Part 5 of the trip, as the fragments it consists of. -/
theorem part5_eq (v2 : BitVec 32) (t : Fin k0_t1_loop.trips) (a16 a103 c : BitVec 32) :
    k0_part5 (F := F) i xW (Memref.isWhole_whole _) arg3 harg3 arg4 harg4 arg5 harg5 arg6 harg6 arg7 harg7 arg8 harg8 arg9 harg9 arg10 harg10 arg11 harg11
        arg12 arg13 arg14 arg15 v102_r0 v102_r1 v2 t a16 a103 c
      = issueFrag i arg9 harg9 arg13 (k0_cond2 t) (k0_off11 i t) (k0_off11_inb i t) >>= fun _ =>
        rowFrag i arg10 harg10 arg14 k0_t4_loop k0_t4_ok (offs k0_off12 k0_off13) (offs_fits _ _ k0_off12_inb k0_off13_inb) >>= fun a =>
        pure ⟨Scalar.addi (Scalar.muli 4#32 a16) 2#32,
          k0_pay28 a.1 a.2.1 a.2.2.1 a.2.2.2, k0_pay29 a.1 a.2.1 a.2.2.1 a.2.2.2, k0_pay30 a.1 a.2.1 a.2.2.1 a.2.2.2⟩ := by
  rw [k0_part5_eq_skeleton]
  unfold k0_part5_skel issueFrag
  by_cases h : k0_cond2 t = 1#1
  · rw [dif_pos h, dif_pos h]
    rfl
  · rw [dif_neg h, dif_neg h]
    rfl

/-- Part 6 of the trip, as the fragments it consists of. -/
theorem part6_eq (t : Fin k0_t1_loop.trips) (acc : FVec F S16 .f32) (r : BitVec 32) (v : FVec F S16 .f32) (p : F .f32) (s : FVec F S1 .f32) :
    k0_part6 (F := F) i xW (Memref.isWhole_whole _) arg3 harg3 arg4 harg4 arg5 harg5 arg6 harg6 arg7 harg7 arg8 harg8 arg9 harg9 arg10 harg10 arg11 harg11
        arg12 arg13 arg14 arg15 v102_r0 v102_r1 lanes t acc r v p s
      = gatherFrag i arg5 arg10 k0_chk3 k0_chk3.dec k0_idx3_inb (k0_off10 t 2#32) (k0_off10_inb t 1) lanes r >>= fun z =>
        (Prog.lift (.load arg6 (Rect.unit (s := S128) (k0_off14 t 2#32) S16.size (k0_off14_inb t 0)).toLoadRect (View.loadsAt_vmem h_S16)) : Prog _ (Vec F S16 .f32)) >>= fun old =>
        pure ⟨addf acc (gvec lanes (pick lanes r z.1) z.2), k0_pay33 lanes r v p s old⟩ := by
  rw [k0_part6_eq_skeleton]
  rfl

/-- Part 7 of the trip, as the fragments it consists of. -/
theorem part7_eq (v2 : BitVec 32) (t : Fin k0_t1_loop.trips) (a16 a103 : BitVec 32) (w : FVec F S16 .f32) :
    k0_part7 (F := F) i xW (Memref.isWhole_whole _) arg3 harg3 arg4 harg4 arg5 harg5 arg6 harg6 arg7 harg7 arg8 harg8 arg9 harg9 arg10 harg10 arg11 harg11
        arg12 arg13 arg14 arg15 v102_r0 v102_r1 v2 t a16 a103 w
      = putFrag i arg6 (k0_off14 t 2#32) (k0_off14_inb t 0) w >>= fun _ =>
        issueFrag i arg10 harg10 arg14 (k0_cond3 t) (k0_off15 i t) (k0_off15_inb i t) >>= fun _ =>
        rowFrag i arg11 harg11 arg15 k0_t5_loop k0_t5_ok (offs k0_off16 k0_off17) (offs_fits _ _ k0_off16_inb k0_off17_inb) >>= fun a =>
        pure ⟨Scalar.addi (Scalar.muli 4#32 a16) 3#32,
          k0_pay39 a.1 a.2.1 a.2.2.1 a.2.2.2, k0_pay40 a.1 a.2.1 a.2.2.1 a.2.2.2, k0_pay41 a.1 a.2.1 a.2.2.1 a.2.2.2⟩ := by
  rw [k0_part7_eq_skeleton]
  unfold k0_part7_skel issueFrag
  by_cases h : k0_cond3 t = 1#1
  · simp only [dif_pos h]
    rfl
  · simp only [dif_neg h]
    rfl

/-- Part 8 of the trip, as the fragments it consists of. -/
theorem part8_eq (t : Fin k0_t1_loop.trips) (acc : FVec F S16 .f32) (r : BitVec 32) (v : FVec F S16 .f32) (p : F .f32) (s : FVec F S1 .f32) :
    k0_part8 (F := F) i xW (Memref.isWhole_whole _) arg3 harg3 arg4 harg4 arg5 harg5 arg6 harg6 arg7 harg7 arg8 harg8 arg9 harg9 arg10 harg10 arg11 harg11
        arg12 arg13 arg14 arg15 v102_r0 v102_r1 lanes t acc r v p s
      = gatherFrag i arg5 arg11 k0_chk4 k0_chk4.dec k0_idx4_inb (k0_off14 t 3#32) (k0_off14_inb t 1) lanes r >>= fun z =>
        (Prog.lift (.load arg6 (Rect.unit (s := S128) (k0_off18 t) S16.size (k0_off18_inb t)).toLoadRect (View.loadsAt_vmem h_S16)) : Prog _ (Vec F S16 .f32)) >>= fun old =>
        pure ⟨k0_pay42 v p s, Scalar.subi r (Scalar.andi r 15#32), addf acc (gvec lanes (pick lanes r z.1) z.2), old, k0_pay45 lanes r⟩ := by
  rw [k0_part8_eq_skeleton]
  rfl

/-- The trip of the loop over a tile's rows is four row steps. -/
theorem body_eq (v2 : BitVec 32) (t : Fin k0_t1_loop.trips) (acc : FVec F S16 .f32) :
    k0_t1_body (F := F) i xW (Memref.isWhole_whole _) arg3 harg3 arg4 harg4 arg5 harg5 arg6 harg6 arg7 harg7 arg8 harg8 arg9 harg9 arg10 harg10 arg11 harg11
        arg12 arg13 arg14 arg15 v102_r0 v102_r1 v2 lanes t acc
      = stepFrag i arg5 arg6 arg8 harg8 arg12 k0_t2_loop k0_t2_ok (offs k0_off3 k0_off4) (offs_fits _ _ k0_off3_inb k0_off4_inb)
          k0_chk1 k0_chk1.dec k0_idx1_inb (k0_off5 t) (k0_off5_inb t) (k0_off6 t 0#32) (k0_off6_inb t 0)
          (fun a old => k0_pay11 lanes (Scalar.addi (Scalar.muli 4#32 (Scf.iv 0#32 1#32 t)) 0#32) (k0_pay6 a.1 a.2.1 a.2.2.1 a.2.2.2)
            (k0_pay7 a.1 a.2.1 a.2.2.1 a.2.2.2) (k0_pay8 a.1 a.2.1 a.2.2.1 a.2.2.2) old)
          (k0_cond1 t) (k0_off7 i t) (k0_off7_inb i t) (Scalar.addi (Scalar.muli 4#32 (Scf.iv 0#32 1#32 t)) 0#32) acc >>= fun acc1 =>
        stepFrag i arg5 arg6 arg9 harg9 arg13 k0_t3_loop k0_t3_ok (offs k0_off8 k0_off9) (offs_fits _ _ k0_off8_inb k0_off9_inb)
          k0_chk2 k0_chk2.dec k0_idx2_inb (k0_off6 t 1#32) (k0_off6_inb t 1) (k0_off10 t 1#32) (k0_off10_inb t 0)
          (fun a old => k0_pay22 lanes (Scalar.addi (Scalar.muli 4#32 (Scf.iv 0#32 1#32 t)) 1#32) (k0_pay17 a.1 a.2.1 a.2.2.1 a.2.2.2)
            (k0_pay18 a.1 a.2.1 a.2.2.1 a.2.2.2) (k0_pay19 a.1 a.2.1 a.2.2.1 a.2.2.2) old)
          (k0_cond2 t) (k0_off11 i t) (k0_off11_inb i t) (Scalar.addi (Scalar.muli 4#32 (Scf.iv 0#32 1#32 t)) 1#32) acc1 >>= fun acc2 =>
        stepFrag i arg5 arg6 arg10 harg10 arg14 k0_t4_loop k0_t4_ok (offs k0_off12 k0_off13) (offs_fits _ _ k0_off12_inb k0_off13_inb)
          k0_chk3 k0_chk3.dec k0_idx3_inb (k0_off10 t 2#32) (k0_off10_inb t 1) (k0_off14 t 2#32) (k0_off14_inb t 0)
          (fun a old => k0_pay33 lanes (Scalar.addi (Scalar.muli 4#32 (Scf.iv 0#32 1#32 t)) 2#32) (k0_pay28 a.1 a.2.1 a.2.2.1 a.2.2.2)
            (k0_pay29 a.1 a.2.1 a.2.2.1 a.2.2.2) (k0_pay30 a.1 a.2.1 a.2.2.1 a.2.2.2) old)
          (k0_cond3 t) (k0_off15 i t) (k0_off15_inb i t) (Scalar.addi (Scalar.muli 4#32 (Scf.iv 0#32 1#32 t)) 2#32) acc2 >>= fun acc3 =>
        stepFrag i arg5 arg6 arg11 harg11 arg15 k0_t5_loop k0_t5_ok (offs k0_off16 k0_off17) (offs_fits _ _ k0_off16_inb k0_off17_inb)
          k0_chk4 k0_chk4.dec k0_idx4_inb (k0_off14 t 3#32) (k0_off14_inb t 1) (k0_off18 t) (k0_off18_inb t)
          (fun a old => k0_pay47 (k0_pay42 (k0_pay39 a.1 a.2.1 a.2.2.1 a.2.2.2)
            (k0_pay40 a.1 a.2.1 a.2.2.1 a.2.2.2) (k0_pay41 a.1 a.2.1 a.2.2.1 a.2.2.2)) old
              (k0_pay45 lanes (Scalar.addi (Scalar.muli 4#32 (Scf.iv 0#32 1#32 t)) 3#32)))
          (k0_cond4 t) (k0_off19 i t) (k0_off19_inb i t) (Scalar.addi (Scalar.muli 4#32 (Scf.iv 0#32 1#32 t)) 3#32) acc3 := by
  unfold k0_t1_body
  simp only [part1_eq, part2_eq, part3_eq, part4_eq, part5_eq, part6_eq, part7_eq, part8_eq, stepFrag, bind_assoc, pure_bind]
  iterate 17 refine bind_congr' _ fun _ => ?_
  unfold issueFrag
  by_cases h : k0_cond4 t = 1#1
  · simp only [dif_pos h]
    rfl
  · simp only [dif_neg h]
    rfl

end parts
end Cert.Proof.Smooth
end
-- ==== Proof.Step.lean ====
module

public import proofs.«01_k».proof.Proof.Body

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-! ## The four stored groups -/

/-- The sum of a row from its four accumulators. -/
abbrev rowSum (a : Acc4 F) : F .f32 := laneSum (fun l => join4 a (lane l)) 15

omit [Named F] in
theorem put0 (r : BitVec 32) (a : Acc4 F) (old : Vec F S16 .f32) :
    k0_pay11 lanes r (k0_pay6 a.1 a.2.1 a.2.2.1 a.2.2.2) (k0_pay7 a.1 a.2.1 a.2.2.1 a.2.2.2) (k0_pay8 a.1 a.2.1 a.2.2.1 a.2.2.2) old
      = putv lanes r (rowSum a) old := by
  unfold k0_pay11 k0_pay7 k0_pay8
  simp only [slice_lane, Nat.reduceLT]
  rfl

omit [Named F] in
theorem put1 (r : BitVec 32) (a : Acc4 F) (old : Vec F S16 .f32) :
    k0_pay22 lanes r (k0_pay17 a.1 a.2.1 a.2.2.1 a.2.2.2) (k0_pay18 a.1 a.2.1 a.2.2.1 a.2.2.2) (k0_pay19 a.1 a.2.1 a.2.2.1 a.2.2.2) old
      = putv lanes r (rowSum a) old := by
  unfold k0_pay22 k0_pay18 k0_pay19
  simp only [slice_lane, Nat.reduceLT]
  rfl

omit [Named F] in
theorem put2 (r : BitVec 32) (a : Acc4 F) (old : Vec F S16 .f32) :
    k0_pay33 lanes r (k0_pay28 a.1 a.2.1 a.2.2.1 a.2.2.2) (k0_pay29 a.1 a.2.1 a.2.2.1 a.2.2.2) (k0_pay30 a.1 a.2.1 a.2.2.1 a.2.2.2) old
      = putv lanes r (rowSum a) old := by
  unfold k0_pay33 k0_pay29 k0_pay30
  simp only [slice_lane, Nat.reduceLT]
  rfl

omit [Named F] in
theorem put3 (r : BitVec 32) (a : Acc4 F) (old : Vec F S16 .f32) :
    k0_pay47 (k0_pay42 (k0_pay39 a.1 a.2.1 a.2.2.1 a.2.2.2) (k0_pay40 a.1 a.2.1 a.2.2.1 a.2.2.2) (k0_pay41 a.1 a.2.1 a.2.2.1 a.2.2.2)) old
        (k0_pay45 lanes r)
      = putv lanes r (rowSum a) old := by
  unfold k0_pay47 k0_pay42 k0_pay40 k0_pay41
  simp only [slice_lane, Nat.reduceLT]
  rfl

/-! ## One row -/

/-- The targets of the tile, as numbers of its rows. -/
abbrev tgtOf (g : S128.Idx → BitVec 32) (R : Nat) : BitVec 32 := g (ix1 (Fin.ofNat 128 R))

/-- A load of a group of the row sums put by. -/
theorem load_wp (d : Dev nD) (i : grid0.Coords) (a6 : Memref sig .scVector .vmem S128 .f32)
    (off : Fin 1 → Nat) (inb : ∀ a, off a + S16.size a ≤ S128.size a) (f6 : a6.view.ty.Contents (Elt F))
    (Q : Vec F S16 .f32 → sProp 𝕄) :
    iprop((a6.view.loc (tile d i) ↦{fullShare} f6)
        ∗ ((a6.view.loc (tile d i) ↦{fullShare} f6)
            -∗ Q (a6.view.readAt (Elt F) (Rect.unit (s := S128) off S16.size inb).toLoadRect f6)))
      ⊢ wp frame (wpE (defs₀ (F := F)) 𝒱₀ (tile d i) none) Set.univ
          (Prog.lift (.load a6 (Rect.unit (s := S128) off S16.size inb).toLoadRect (View.loadsAt_vmem h_S16))) Q := by
  iintro ⟨H6, HQ⟩
  sl_exec
  sl_step
  iapply HQ
  iexact H6

/-- The step of row `R = 4 k + n`: the gathered sum takes the row's entry, one more row sum is put by, the ring buffer has the
    row of the next trip in flight. -/
theorem stepFrag_wp (d : Dev nD) (i : grid0.Coords) (a5 : Memref sig .scVector .vmem S128 .i32) (a6 : Memref sig .scVector .vmem S128 .f32)
    (b : Memref sig .scVector .vmem S16000 .f32) (hb : b.IsWhole) (sem : DmaSems sig S_)
    (l : Scf.Loop 32) (hl : l.OK) (hn : l.trips = 125) (o : Fin 8 → Fin l.trips → Fin 1 → Nat) (h : ∀ j, Fits (o j)) (ho : Places o)
    (P : IVec S16 32 → Prop) (dec : ∀ v, Decidable (P v))
    (hP : ∀ v, P v → ∀ a x, ((![v] : Fin 1 → IVec S16 32) a x).toNat < S16000.size a)
    (hP' : ∀ v, (∀ x, (v x).toNat < 16000) → P v)
    (off5 : Fin 1 → Nat) (inb5 : ∀ a, off5 a + S16.size a ≤ S128.size a)
    (off6 : Fin 1 → Nat) (inb6 : ∀ a, off6 a + S16.size a ≤ S128.size a)
    (w : Acc4 F → Vec F S16 .f32 → FVec F S16 .f32)
    (c : BitVec 1) (offI : Fin 2 → Nat) (inbI : c = 1#1 → ∀ a, offI a + S1x16000.size a ≤ S4096x32000.size a)
    (r : BitVec 32) (acc : FVec F S16 .f32)
    (n k p : Nat) (hk : k < 32) (hn4 : n < 4) (hr : r = BitVec.ofNat 32 (4 * k + n)) (hp : p + (4 * k + n) % 16 = 4 * k + n)
    (ho5 : off5 = ![p]) (ho6 : off6 = ![p]) (hw : ∀ a old, w a old = putv lanes r (rowSum a) old)
    (hc : c = 1#1 ↔ k + 1 < 32) (hoI : offI = ![base i + (4 * (k + 1) + n), 16000])
    (q : PosShare TreeShare) (fx : Buf (Elt F) (xLoc d))
    (gT : a5.view.ty.Contents (Elt F)) (f6 : a6.view.ty.Contents (Elt F))
    (h0 : ∀ R, (0#32).sle (tgtOf (a5.view.read (Elt F) gT) R)) (h1 : ∀ R, (tgtOf (a5.view.read (Elt F) gT) R).slt 32000#32)
    (hk6 : Known (a6.view.read (Elt F) f6) (fun R => rowVal (xrow fx (base i + R))) (4 * k + n))
    (O : CellTallies nD τ sig (HIx 1)) (W : Waits sig (HIx 1)) (Q : FVec F S16 .f32 → sProp 𝕄) :
    iprop(Transfers.MayWaits (tile d i) none O ∗ ring d i b sem.sem n q fx k ∗ owed d i O W
        ∗ (a5.view.loc (tile d i) ↦{fullShare} gT) ∗ (a6.view.loc (tile d i) ↦{fullShare} f6)
        ∗ (∀ f6', ⌜Known (a6.view.read (Elt F) f6') (fun R => rowVal (xrow fx (base i + R))) (4 * k + n + 1)⌝
            -∗ ring d i b sem.sem n q fx (k + 1) -∗ owed d i O W
            -∗ (a5.view.loc (tile d i) ↦{fullShare} gT) -∗ (a6.view.loc (tile d i) ↦{fullShare} f6')
            -∗ Q (addf acc (gat (xrow fx (base i + (4 * k + n))) (tgtOf (a5.view.read (Elt F) gT) (4 * k + n))))))
      ⊢ wp frame (wpE (defs₀ (F := F)) 𝒱₀ (tile d i) none) Set.univ
          (stepFrag i a5 a6 b hb sem l hl o h P dec hP off5 inb5 off6 inb6 w c offI inbI r acc) Q := by
  have hR : 4 * k + n < 128 := by omega
  have hfin : Fin.ofNat 128 (4 * k + n) = ⟨4 * k + n, hR⟩ := Fin.ext (Nat.mod_eq_of_lt hR)
  unfold stepFrag
  conv in ring d i b sem.sem n q fx k => unfold ring
  rw [if_pos hk]
  iintro ⟨#Hmw, Hb, HO, HT, H6, HQ⟩
  rw [wp_bind]
  iapply (rowFrag_wp d i b hb sem l hl hn o h ho n q fx (4 * k + n) O W)
  isplitr
  · iexact Hmw
  isplitl [Hb]
  · iexact Hb
  isplitl [HO]
  · iexact HO
  iintro ⟨Hb, HO⟩
  unfold free
  icases Hb with ⟨%fb, %hfb, Hb, Hs, Hx⟩
  rw [wp_bind, hr]
  iapply (gatherFrag_wp d i a5 b P dec hP hP' off5 inb5 p (4 * k + n) ho5 hp hR gT fb (hfin ▸ h0 (4 * k + n)) (hfin ▸ h1 (4 * k + n)))
  isplitl [HT]
  · iexact HT
  isplitl [Hb]
  · iexact Hb
  iintro %z %hz HT Hb
  rw [wp_bind]
  iapply (load_wp d i a6 off6 inb6 f6)
  isplitl [H6]
  · iexact H6
  iintro H6
  rw [wp_bind]
  iapply (putFrag_wp d i a6 off6 inb6 p (4 * k + n) ho6 hp hR f6 (fun R => rowVal (xrow fx (base i + R))) hk6 _
    ((hw _ _).trans (by rw [hr]; rfl)))
  isplitl [H6]
  · iexact H6
  iintro %f6' %hf6 H6
  rw [wp_bind]
  iapply (issueFrag_wp d i b hb sem c offI inbI n (k + 1) hc hoI q fx (fun g => g = xrow fx (base i + (4 * k + n))))
  isplitl [Hb Hs Hx]
  · unfold free
    iexists fb
    isplitr
    · ipureintro; exact hfb
    isplitl [Hb]
    · iexact Hb
    isplitl [Hs]
    · iexact Hs
    · iexact Hx
  iintro Hr
  sl_step
  rw [hz, hfb, ← hfin]
  iapply HQ $$ [] Hr HO HT H6
  ipureintro; exact hf6

end Cert.Proof.Smooth

end
-- ==== Proof.Outer.lean ====
module

public import proofs.«01_k».proof.Proof.Step

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-! ## Closed forms of the trip's offsets and conditions -/

omit [FloatOps F] [Named F] in
theorem off5_closed : ∀ t : Fin k0_t1_loop.trips, k0_off5 t = ![16 * (t.val / 4)] := by decide +kernel
omit [FloatOps F] [Named F] in
theorem off6_closed0 : ∀ t : Fin k0_t1_loop.trips, k0_off6 t 0#32 = ![16 * (t.val / 4)] := by decide +kernel
omit [FloatOps F] [Named F] in
theorem off6_closed1 : ∀ t : Fin k0_t1_loop.trips, k0_off6 t 1#32 = ![16 * (t.val / 4)] := by decide +kernel
omit [FloatOps F] [Named F] in
theorem off10_closed1 : ∀ t : Fin k0_t1_loop.trips, k0_off10 t 1#32 = ![16 * (t.val / 4)] := by decide +kernel
omit [FloatOps F] [Named F] in
theorem off10_closed2 : ∀ t : Fin k0_t1_loop.trips, k0_off10 t 2#32 = ![16 * (t.val / 4)] := by decide +kernel
omit [FloatOps F] [Named F] in
theorem off14_closed2 : ∀ t : Fin k0_t1_loop.trips, k0_off14 t 2#32 = ![16 * (t.val / 4)] := by decide +kernel
omit [FloatOps F] [Named F] in
theorem off14_closed3 : ∀ t : Fin k0_t1_loop.trips, k0_off14 t 3#32 = ![16 * (t.val / 4)] := by decide +kernel
omit [FloatOps F] [Named F] in
theorem off18_closed : ∀ t : Fin k0_t1_loop.trips, k0_off18 t = ![16 * (t.val / 4)] := by decide +kernel
omit [FloatOps F] [Named F] in
theorem cond1_iff : ∀ t : Fin k0_t1_loop.trips, k0_cond1 t = 1#1 ↔ t.val + 1 < 32 := by decide +kernel
omit [FloatOps F] [Named F] in
theorem cond2_iff : ∀ t : Fin k0_t1_loop.trips, k0_cond2 t = 1#1 ↔ t.val + 1 < 32 := by decide +kernel
omit [FloatOps F] [Named F] in
theorem cond3_iff : ∀ t : Fin k0_t1_loop.trips, k0_cond3 t = 1#1 ↔ t.val + 1 < 32 := by decide +kernel
omit [FloatOps F] [Named F] in
theorem cond4_iff : ∀ t : Fin k0_t1_loop.trips, k0_cond4 t = 1#1 ↔ t.val + 1 < 32 := by decide +kernel

omit [FloatOps F] [Named F] in
theorem fits_places (v : IVec S16 32) (h : ∀ x, (v x).toNat < 16000) : ∀ a x, ((![v] : Fin 1 → IVec S16 32) a x).toNat < S16000.size a := by
  intro a x
  obtain rfl : a = 0 := Subsingleton.elim _ _
  exact h x

omit [FloatOps F] [Named F] in
theorem issue0_closed (i : grid0.Coords) (t : Fin k0_t1_loop.trips) : k0_off7 i t = ![base i + (4 * (t.val + 1) + 0), 16000] :=
  (k0_off7_eq i t).trans (congrArg (fun z => ![z, 16000]) (by unfold base; omega))

omit [FloatOps F] [Named F] in
theorem issue1_closed (i : grid0.Coords) (t : Fin k0_t1_loop.trips) : k0_off11 i t = ![base i + (4 * (t.val + 1) + 1), 16000] :=
  (k0_off11_eq i t).trans (congrArg (fun z => ![z, 16000]) (by unfold base; omega))

omit [FloatOps F] [Named F] in
theorem issue2_closed (i : grid0.Coords) (t : Fin k0_t1_loop.trips) : k0_off15 i t = ![base i + (4 * (t.val + 1) + 2), 16000] :=
  (k0_off15_eq i t).trans (congrArg (fun z => ![z, 16000]) (by unfold base; omega))

omit [FloatOps F] [Named F] in
theorem issue3_closed (i : grid0.Coords) (t : Fin k0_t1_loop.trips) : k0_off19 i t = ![base i + (4 * (t.val + 1) + 3), 16000] :=
  (k0_off19_eq i t).trans (congrArg (fun z => ![z, 16000]) (by unfold base; omega))

/-! ## The loop over a tile's rows -/

/-- Before trip `n`: the gathered sum is the model's over the first `4 n` rows, as many row sums are put by, and the ring has the
    rows `4 n … 4 n + 3` in flight. -/
abbrev outInv (d : Dev nD) (i : grid0.Coords) (a5 : Memref sig .scVector .vmem S128 .i32) (a6 : Memref sig .scVector .vmem S128 .f32)
    (r0 r1 r2 r3 : Memref sig .scVector .vmem S16000 .f32) (s0 s1 s2 s3 : DmaSems sig S_)
    (q : PosShare TreeShare) (fx : Buf (Elt F) (xLoc d)) (gT : a5.view.ty.Contents (Elt F))
    (O : CellTallies nD τ sig (HIx 1)) (W : Waits sig (HIx 1)) (n : Nat) (acc : FVec F S16 .f32) : sProp 𝕄 :=
  iprop(⌜acc = gsum (fun R => xrow fx (base i + R)) (tgtOf (a5.view.read (Elt F) gT)) (4 * n)⌝
    ∗ Transfers.MayWaits (tile d i) none O
    ∗ ring d i r0 s0.sem 0 q fx n ∗ ring d i r1 s1.sem 1 q fx n ∗ ring d i r2 s2.sem 2 q fx n ∗ ring d i r3 s3.sem 3 q fx n
    ∗ owed d i O W ∗ (a5.view.loc (tile d i) ↦{fullShare} gT)
    ∗ ∃ f6, ⌜Known (a6.view.read (Elt F) f6) (fun R => rowVal (xrow fx (base i + R))) (4 * n)⌝ ∗ (a6.view.loc (tile d i) ↦{fullShare} f6))

section parts
variable (i : grid0.Coords) (arg3 : Memref sig .scVector .hbm S4096 .i32) (harg3 : arg3.IsWhole) (arg4 : Memref sig .scVector .hbm S32x16 .f32) (harg4 : arg4.IsWhole) (arg5 : Memref sig .scVector .vmem S128 .i32) (harg5 : arg5.IsWhole) (arg6 : Memref sig .scVector .vmem S128 .f32) (harg6 : arg6.IsWhole) (arg7 : Memref sig .scVector .vmem S16 .f32) (harg7 : arg7.IsWhole) (arg8 : Memref sig .scVector .vmem S16000 .f32) (harg8 : arg8.IsWhole) (arg9 : Memref sig .scVector .vmem S16000 .f32) (harg9 : arg9.IsWhole) (arg10 : Memref sig .scVector .vmem S16000 .f32) (harg10 : arg10.IsWhole) (arg11 : Memref sig .scVector .vmem S16000 .f32) (harg11 : arg11.IsWhole) (arg12 : DmaSems sig S_) (arg13 : DmaSems sig S_) (arg14 : DmaSems sig S_) (arg15 : DmaSems sig S_) (v102_r0 : DmaSems sig S_) (v102_r1 : DmaSems sig S_)

/-- One trip keeps the invariant. -/
theorem body_wp (d : Dev nD) (q : PosShare TreeShare) (fx : Buf (Elt F) (xLoc d)) (gT : arg5.view.ty.Contents (Elt F))
    (h0 : ∀ R, (0#32).sle (tgtOf (arg5.view.read (Elt F) gT) R)) (h1 : ∀ R, (tgtOf (arg5.view.read (Elt F) gT) R).slt 32000#32)
    (O : CellTallies nD τ sig (HIx 1)) (W : Waits sig (HIx 1)) (v2 : BitVec 32) (k : Fin k0_t1_loop.trips) (acc : FVec F S16 .f32) :
    outInv d i arg5 arg6 arg8 arg9 arg10 arg11 arg12 arg13 arg14 arg15 q fx gT O W k.val acc
      ⊢ wp frame (wpE (defs₀ (F := F)) 𝒱₀ (tile d i) none) Set.univ
          (k0_t1_body i xW (Memref.isWhole_whole _) arg3 harg3 arg4 harg4 arg5 harg5 arg6 harg6 arg7 harg7 arg8 harg8 arg9 harg9 arg10 harg10 arg11 harg11
        arg12 arg13 arg14 arg15 v102_r0 v102_r1 v2 lanes k acc)
          (outInv d i arg5 arg6 arg8 arg9 arg10 arg11 arg12 arg13 arg14 arg15 q fx gT O W (k.val + 1)) := by
  have hk : k.val < 32 := k.isLt
  rw [body_eq]
  iintro ⟨%hacc, #Hmw, R0, R1, R2, R3, HO, HT, %f6, %hf6, H6⟩
  subst hacc
  rw [wp_bind]
  iapply (stepFrag_wp d i arg5 arg6 arg8 harg8 arg12 _ _ (by decide) _ _ (offs_places _ _ k0_off3_eq k0_off4_eq)
    _ _ _ (fun v h => fits_places v h) _ _ _ _ _ _ _ _ _ _ 0 k.val (16 * (k.val / 4)) hk (by omega) (row_word k.val 0) (by omega)
    (off5_closed k) (off6_closed0 k) (put0 _) (cond1_iff k) (issue0_closed i k) q fx gT f6 h0 h1 hf6 O W)
  isplitr
  · iexact Hmw
  isplitl [R0]
  · iexact R0
  isplitl [HO]
  · iexact HO
  isplitl [HT]
  · iexact HT
  isplitl [H6]
  · iexact H6
  iintro %g1 %hg1 R0 HO HT H6
  rw [wp_bind]
  iapply (stepFrag_wp d i arg5 arg6 arg9 harg9 arg13 _ _ (by decide) _ _ (offs_places _ _ k0_off8_eq k0_off9_eq)
    _ _ _ (fun v h => fits_places v h) _ _ _ _ _ _ _ _ _ _ 1 k.val (16 * (k.val / 4)) hk (by omega) (row_word k.val 1) (by omega)
    (off6_closed1 k) (off10_closed1 k) (put1 _) (cond2_iff k) (issue1_closed i k) q fx gT g1 h0 h1 hg1 O W)
  isplitr
  · iexact Hmw
  isplitl [R1]
  · iexact R1
  isplitl [HO]
  · iexact HO
  isplitl [HT]
  · iexact HT
  isplitl [H6]
  · iexact H6
  iintro %g2 %hg2 R1 HO HT H6
  rw [wp_bind]
  iapply (stepFrag_wp d i arg5 arg6 arg10 harg10 arg14 _ _ (by decide) _ _ (offs_places _ _ k0_off12_eq k0_off13_eq)
    _ _ _ (fun v h => fits_places v h) _ _ _ _ _ _ _ _ _ _ 2 k.val (16 * (k.val / 4)) hk (by omega) (row_word k.val 2) (by omega)
    (off10_closed2 k) (off14_closed2 k) (put2 _) (cond3_iff k) (issue2_closed i k) q fx gT g2 h0 h1 hg2 O W)
  isplitr
  · iexact Hmw
  isplitl [R2]
  · iexact R2
  isplitl [HO]
  · iexact HO
  isplitl [HT]
  · iexact HT
  isplitl [H6]
  · iexact H6
  iintro %g3 %hg3 R2 HO HT H6
  iapply (stepFrag_wp d i arg5 arg6 arg11 harg11 arg15 _ _ (by decide) _ _ (offs_places _ _ k0_off16_eq k0_off17_eq)
    _ _ _ (fun v h => fits_places v h) _ _ _ _ _ _ _ _ _ _ 3 k.val (16 * (k.val / 4)) hk (by omega) (row_word k.val 3) (by omega)
    (off14_closed3 k) (off18_closed k) (put3 _) (cond4_iff k) (issue3_closed i k) q fx gT g3 h0 h1 hg3 O W)
  isplitr
  · iexact Hmw
  isplitl [R3]
  · iexact R3
  isplitl [HO]
  · iexact HO
  isplitl [HT]
  · iexact HT
  isplitl [H6]
  · iexact H6
  iintro %g4 %hg4 R3 HO HT H6
  isplitr
  · ipureintro; rfl
  isplitr
  · iexact Hmw
  isplitl [R0]
  · iexact R0
  isplitl [R1]
  · iexact R1
  isplitl [R2]
  · iexact R2
  isplitl [R3]
  · iexact R3
  isplitl [HO]
  · iexact HO
  isplitl [HT]
  · iexact HT
  iexists g4
  isplitr
  · ipureintro; exact hg4
  · iexact H6

/-- The whole loop. -/
theorem rows_wp (d : Dev nD) (q : PosShare TreeShare) (fx : Buf (Elt F) (xLoc d)) (gT : arg5.view.ty.Contents (Elt F))
    (h0 : ∀ R, (0#32).sle (tgtOf (arg5.view.read (Elt F) gT) R)) (h1 : ∀ R, (tgtOf (arg5.view.read (Elt F) gT) R).slt 32000#32)
    (O : CellTallies nD τ sig (HIx 1)) (W : Waits sig (HIx 1)) (v2 : BitVec 32) (Q : FVec F S16 .f32 → sProp 𝕄) :
    iprop(outInv d i arg5 arg6 arg8 arg9 arg10 arg11 arg12 arg13 arg14 arg15 q fx gT O W 0 (broadcast S16 zF)
        ∗ (∀ acc, outInv d i arg5 arg6 arg8 arg9 arg10 arg11 arg12 arg13 arg14 arg15 q fx gT O W 32 acc -∗ Q acc))
      ⊢ wp frame (wpE (defs₀ (F := F)) 𝒱₀ (tile d i) none) Set.univ
          (Scf.Loop.for k0_t1_loop k0_t1_ok (k0_pay46 (F := F)) (k0_t1_body i xW (Memref.isWhole_whole _) arg3 harg3 arg4 harg4 arg5 harg5 arg6 harg6 arg7 harg7 arg8 harg8 arg9 harg9 arg10 harg10 arg11 harg11
        arg12 arg13 arg14 arg15 v102_r0 v102_r1 v2 lanes)) Q := by
  have hb := body_wp i arg3 harg3 arg4 harg4 arg5 harg5 arg6 harg6 arg7 harg7 arg8 harg8 arg9 harg9 arg10 harg10 arg11 harg11
    arg12 arg13 arg14 arg15 v102_r0 v102_r1 d q fx gT h0 h1 O W v2
  iintro ⟨HI, HQ⟩
  iapply (Scf.wp_for _ _ _ _ _ _ _ _ _ (outInv d i arg5 arg6 arg8 arg9 arg10 arg11 arg12 arg13 arg14 arg15 q fx gT O W) hb)
  isplitl [HI]
  · iexact HI
  iintro %a HI
  iapply HQ
  iexact HI
end parts

end Cert.Proof.Smooth

end
-- ==== Proof.Prologue.lean ====
module

public import proofs.«01_k».proof.Proof.Outer

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-! ## The targets of a tile -/

/-- The target of row `R` of the tile whose first row is `B`. -/
def tileT (ft : S4096.Idx → BitVec 32) (B R : Nat) : BitVec 32 := ft (ix1 (Fin.ofNat 4096 (B + R % 128)))

/-- A tile's targets as a copy's source. -/
abbrev tgtSl (i : grid0.Coords) : Memref sig .scVector .hbm S128 .i32 :=
  tW.slice (Rect.unit (s := S4096) (k0_off1 i) S128.size (k0_off1_inb i)) (fun _ => rfl)

/-- Read through that source, the targets are the tile's. -/
theorem read_tgtSl (i : grid0.Coords) (ft : S4096.Idx → BitVec 32) :
    tgtOf ((tgtSl i).view.read (Elt F) ft) = tileT ft (base i) := by
  funext R
  show ft ((Rect.unit (s := S4096) (k0_off1 i) S128.size (k0_off1_inb i)).emb (ix1 (Fin.ofNat 128 R))) = _
  unfold tileT
  congr 1
  funext a
  obtain rfl : a = 0 := Subsingleton.elim _ _
  apply Fin.ext
  rw [Rect.emb_apply]
  show k0_off1 i 0 + 1 * (R % 128) = (base i + R % 128) % 4096
  have := base_lt i
  rw [k0_off1_eq]
  show 256 * (i 1).val + 128 * (i 0).val + 1 * (R % 128) = _
  unfold base at this ⊢
  omega

/-! ## Read shares -/

/-- What is left of a share after `k` tokens is what is left after one more, and that token. -/
theorem tok_step {ℓ : Loc nD τ sig} {S : Finset (Loc.ty ℓ).Idx} (q : PosShare TreeShare) (k : Nat) (f : Buf (Elt F) ℓ) :
    (ℓ ↦[S]{Transfers.shareDrop q k} f : sProp 𝕄)
      ⊣⊢ iprop((ℓ ↦[S]{Transfers.shareDrop q (k + 1)} f) ∗ ℓ ↦[S]{Transfers.shareTokN q k} f) :=
  pointsTo_share (PosShare.mem_left_op_right _)

/-- A share is what is left of it after four tokens, and those. -/
theorem toks4 (ℓ : Loc nD τ sig) (q : PosShare TreeShare) (f : Buf (Elt F) ℓ) :
    (ℓ ↦{q} f : sProp 𝕄)
      ⊣⊢ iprop((ℓ ↦{Transfers.shareDrop q 4} f) ∗ (ℓ ↦{Transfers.shareTokN q 0} f) ∗ (ℓ ↦{Transfers.shareTokN q 1} f)
          ∗ (ℓ ↦{Transfers.shareTokN q 2} f) ∗ (ℓ ↦{Transfers.shareTokN q 3} f)) := by
  constructor
  · show (ℓ ↦{Transfers.shareDrop q 0} f : sProp 𝕄) ⊢ _
    iintro Hx
    ihave ⟨Hx, T0⟩ := (tok_step (F := F) q 0 f).1 $$ Hx
    ihave ⟨Hx, T1⟩ := (tok_step (F := F) q 1 f).1 $$ Hx
    ihave ⟨Hx, T2⟩ := (tok_step (F := F) q 2 f).1 $$ Hx
    ihave ⟨Hx, T3⟩ := (tok_step (F := F) q 3 f).1 $$ Hx
    isplitl [Hx]
    · iexact Hx
    isplitl [T0]
    · iexact T0
    isplitl [T1]
    · iexact T1
    isplitl [T2]
    · iexact T2
    · iexact T3
  · show _ ⊢ (ℓ ↦{Transfers.shareDrop q 0} f : sProp 𝕄)
    iintro ⟨Hx, T0, T1, T2, T3⟩
    ihave Hx := (tok_step (F := F) q 3 f).2 $$ [Hx T3]
    · isplitl [Hx]; · iexact Hx
      iexact T3
    ihave Hx := (tok_step (F := F) q 2 f).2 $$ [Hx T2]
    · isplitl [Hx]; · iexact Hx
      iexact T2
    ihave Hx := (tok_step (F := F) q 1 f).2 $$ [Hx T1]
    · isplitl [Hx]; · iexact Hx
      iexact T1
    iapply (tok_step (F := F) q 0 f).2
    isplitl [Hx]; · iexact Hx
    iexact T0

omit [FloatOps F] [Named F] in
/-- The rows issued before the loop. -/
theorem off2_closed (i : grid0.Coords) (n : Fin 4) : k0_off2 i (BitVec.ofNat 32 n.val) = ![base i + (4 * 0 + n.val), 16000] :=
  (k0_off2_eq i n).trans (congrArg (fun z => ![z, 16000]) (by unfold base; omega))

/-- A row just issued is the ring buffer before the first trip. -/
theorem ring_start (d : Dev nD) (i : grid0.Coords) (b : Memref sig .scVector .vmem S16000 .f32) (sem : DmaSem sig) (n : Nat)
    (q : PosShare TreeShare) (fx : Buf (Elt F) (xLoc d)) (off : Fin 2 → Nat)
    (inb : ∀ a, off a + S1x16000.size a ≤ S4096x32000.size a) (ho : off = ![base i + (4 * 0 + n), 16000]) (f : b.view.ty.Contents (Elt F)) :
    iprop((Transfers.Flight countersEmb (tile d i) (.dma sem) (default : HIx 1) 512000
        iprop((b.view.loc (tile d i) ↦{fullShare}
              b.view.write (Elt F) f (ReadAs.same.apply ((rowSl off inb).view.read (Elt F) fx)) Finset.univ)
          ∗ (xW.view.loc (tile d i) ↦[(rowSl off inb).view.set]{Transfers.shareTokN q n} fx)) : sProp 𝕄)
    ∗ (xW.view.loc (tile d i) ↦[Finset.univ \ (rowSl off inb).view.set]{Transfers.shareTokN q n} fx))
    ⊢ ring d i b sem n q fx 0 := by
  unfold ring
  rw [if_pos (by omega)]
  exact inFl_intro d i b sem n q fx (4 * 0 + n) off inb ho f

/-- After the last trip the ring buffer is free. -/
theorem ring_end (d : Dev nD) (i : grid0.Coords) (b : Memref sig .scVector .vmem S16000 .f32) (sem : DmaSem sig) (n : Nat)
    (q : PosShare TreeShare) (fx : Buf (Elt F) (xLoc d)) :
    ring d i b sem n q fx 32
      ⊢ iprop((∃ g, b.view.loc (tile d i) ↦{fullShare} g) ∗ semVal (tile d i, .dma sem) 0
          ∗ (xW.view.loc (tile d i) ↦{Transfers.shareTokN q n} fx)) := by
  unfold ring
  rw [if_neg (by omega)]
  unfold free
  iintro ⟨%fb, -, Hb, Hs, Hx⟩
  isplitl [Hb]
  · iexists fb; iexact Hb
  isplitl [Hs]
  · iexact Hs
  · iexact Hx

/-! ## The first part of a tile's body: the targets, the ring, the loop -/

theorem part9_wp (d : Dev nD) (i : grid0.Coords) (q qT : PosShare TreeShare) (fx : Buf (Elt F) (xLoc d)) (ft : Buf (Elt F) (tLoc d))
    (h0 : ∀ R, (0#32).sle (tileT ft (base i) R)) (h1 : ∀ R, (tileT ft (base i) R).slt 32000#32)
    (O : CellTallies nD τ sig (HIx 1)) (W : Waits sig (HIx 1))
    (f5 : sT.view.ty.Contents (Elt F)) (f6 : sR.view.ty.Contents (Elt F)) (g0 g1 g2 g3 : S16000.Idx → F .f32)
    (Q : (Σ' (_ : FVec F S16 .f32), FVec F S16 .f32) → sProp 𝕄) :
    iprop(Transfers.MayWaits (tile d i) none O ∗ (xW.view.loc (tile d i) ↦{q} fx) ∗ (tW.view.loc (tile d i) ↦{qT} ft)
        ∗ (sT.view.loc (tile d i) ↦{fullShare} f5) ∗ (sR.view.loc (tile d i) ↦{fullShare} f6)
        ∗ (b0.view.loc (tile d i) ↦{fullShare} g0) ∗ (b1.view.loc (tile d i) ↦{fullShare} g1)
        ∗ (b2.view.loc (tile d i) ↦{fullShare} g2) ∗ (b3.view.loc (tile d i) ↦{fullShare} g3)
        ∗ semVal (tile d i, .dma cc0_scratch7.sem) 0 ∗ semVal (tile d i, .dma cc0_scratch8.sem) 0
        ∗ semVal (tile d i, .dma cc0_scratch9.sem) 0 ∗ semVal (tile d i, .dma cc0_scratch10.sem) 0
        ∗ semVal (tile d i, .dma cc0_scoped0.sem) 0 ∗ owes (tile d i) O W
        ∗ (∀ gT f6', ⌜tgtOf (sT.view.read (Elt F) gT) = tileT ft (base i)
              ∧ Known (sR.view.read (Elt F) f6') (fun R => rowVal (xrow fx (base i + R))) 128⌝
            -∗ (xW.view.loc (tile d i) ↦{q} fx) -∗ (tW.view.loc (tile d i) ↦{qT} ft)
            -∗ (sT.view.loc (tile d i) ↦{fullShare} gT) -∗ (sR.view.loc (tile d i) ↦{fullShare} f6')
            -∗ (∃ g, b0.view.loc (tile d i) ↦{fullShare} g) -∗ (∃ g, b1.view.loc (tile d i) ↦{fullShare} g)
            -∗ (∃ g, b2.view.loc (tile d i) ↦{fullShare} g) -∗ (∃ g, b3.view.loc (tile d i) ↦{fullShare} g)
            -∗ semVal (tile d i, .dma cc0_scratch7.sem) 0 -∗ semVal (tile d i, .dma cc0_scratch8.sem) 0
            -∗ semVal (tile d i, .dma cc0_scratch9.sem) 0 -∗ semVal (tile d i, .dma cc0_scratch10.sem) 0
            -∗ semVal (tile d i, .dma cc0_scoped0.sem) 0 -∗ owed d i O W
            -∗ Q ⟨gsum (fun R => xrow fx (base i + R)) (tileT ft (base i)) 128, k0_pay48 (F := F)⟩))
      ⊢ wp frame (wpE (defs₀ (F := F)) 𝒱₀ (tile d i) none) Set.univ
          (k0_part9 i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1) Q := by
  have hgT : tgtOf (sT.view.read (Elt F) (sT.view.write (Elt F) f5 (ReadAs.same.apply ((tgtSl i).view.read (Elt F) ft)) Finset.univ))
      = tileT ft (base i) := (congrArg tgtOf (View.read_write_univ _ _)).trans (read_tgtSl i ft)
  rw [k0_part9_eq_skeleton]
  unfold k0_part9_skel
  iintro ⟨#Hmw, Hx, HT, H5, H6, Hb0, Hb1, Hb2, Hb3, Hs0, Hs1, Hs2, Hs3, Hs4, HO, HQ⟩
  ihave ⟨Hx, T0, T1, T2, T3⟩ := (toks4 (F := F) (xW.view.loc (tile d i)) q fx).1 $$ Hx
  sl_exec (disch := exact View.amount_pos _ _ (show 0 < S16000.numel by decide))
  ihave R0 := (ring_start d i b0 ⟨0, by decide⟩ 0 q fx (k0_off2 i 0#32) (k0_off2_inb i 0) (off2_closed i 0) g0) $$ [Hs0 T0]
  · isplitl [Hs0]; · iexact Hs0
    iexact T0
  ihave R1 := (ring_start d i b1 ⟨1, by decide⟩ 1 q fx (k0_off2 i 1#32) (k0_off2_inb i 1) (off2_closed i 1) g1) $$ [Hs1 T1]
  · isplitl [Hs1]; · iexact Hs1
    iexact T1
  ihave R2 := (ring_start d i b2 ⟨2, by decide⟩ 2 q fx (k0_off2 i 2#32) (k0_off2_inb i 2) (off2_closed i 2) g2) $$ [Hs2 T2]
  · isplitl [Hs2]; · iexact Hs2
    iexact T2
  ihave R3 := (ring_start d i b3 ⟨3, by decide⟩ 3 q fx (k0_off2 i 3#32) (k0_off2_inb i 3) (off2_closed i 3) g3) $$ [Hs3 T3]
  · isplitl [Hs3]; · iexact Hs3
    iexact T3
  rw [wp_bind]
  iapply (rows_wp i tW (Memref.isWhole_whole _) pW (Memref.isWhole_whole _) sT (Memref.isWhole_whole _) sR (Memref.isWhole_whole _)
    sO (Memref.isWhole_whole _) b0 (Memref.isWhole_whole _) b1 (Memref.isWhole_whole _) b2 (Memref.isWhole_whole _) b3 (Memref.isWhole_whole _)
    cc0_scratch7 cc0_scratch8 cc0_scratch9 cc0_scratch10 cc0_scoped0 cc0_scoped1 d q fx
    (sT.view.write (Elt F) f5 (ReadAs.same.apply ((tgtSl i).view.read (Elt F) ft)) Finset.univ) (hgT ▸ h0) (hgT ▸ h1) O W _ _)
  isplitr [HQ Hx HT Hs4]
  · isplitr
    · ipureintro; rfl
    isplitr
    · iexact Hmw
    isplitl [R0]; · iexact R0
    isplitl [R1]; · iexact R1
    isplitl [R2]; · iexact R2
    isplitl [R3]; · iexact R3
    isplitl [HO]
    · unfold owed
      iexists _
      isplitr
      rotate_left
      · iexact HO
      · ipureintro; intro p hp
        rcases Finset.mem_insert.mp hp with h | h
        · exact .inr (by rw [h]; rfl)
        · exact .inl h
    isplitl [H5]
    · iexact H5
    iexists f6
    isplitr
    · ipureintro; intro r _ hr; omega
    · iexact H6
  iintro %acc ⟨%hacc, -, R0, R1, R2, R3, HO, H5, %f6', %hf6', H6⟩
  subst hacc
  ihave ⟨B0, Hs0, T0⟩ := (ring_end d i b0 cc0_scratch7.sem 0 q fx) $$ R0
  ihave ⟨B1, Hs1, T1⟩ := (ring_end d i b1 cc0_scratch8.sem 1 q fx) $$ R1
  ihave ⟨B2, Hs2, T2⟩ := (ring_end d i b2 cc0_scratch9.sem 2 q fx) $$ R2
  ihave ⟨B3, Hs3, T3⟩ := (ring_end d i b3 cc0_scratch10.sem 3 q fx) $$ R3
  ihave Hx := (toks4 (F := F) (xW.view.loc (tile d i)) q fx).2 $$ [Hx T0 T1 T2 T3]
  · isplitl [Hx]; · iexact Hx
    isplitl [T0]; · iexact T0
    isplitl [T1]; · iexact T1
    isplitl [T2]; · iexact T2
    iexact T3
  sl_step
  rw [hgT]
  ispecialize HQ $$ %_ %f6' %⟨hgT, hf6'⟩ Hx HT H5 H6 B0 B1 B2 B3 Hs0 Hs1 Hs2 Hs3
  iapply HQ $$ [Hs4] [HO]
  · iexact Hs4
  · iexact HO

end Cert.Proof.Smooth

end
-- ==== Proof.Epilogue.lean ====
module

public import proofs.«01_k».proof.Proof.Prologue

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-! ## The output vector of a tile -/

/-- What group `n` of sixteen rows adds to the output: minus the small weight times the row's sum, or zero where the target is zero. -/
def grp (T : Nat → BitVec 32) (rv : Nat → F .f32) (n : Nat) : FVec F S16 .f32 :=
  select (cmpi .ne (fun l => T (16 * n + (l 0).val)) (broadcast S16 0#32))
    (mulf (broadcast S16 (Named.named κ "neg_off" 0xB651BA72#32)) (fun l => rv (16 * n + (l 0).val))) (broadcast S16 zF)

/-- The output vector of a tile with gathered sum `g`, targets `T` and row sums `rv`. -/
def outVec (g : FVec F S16 .f32) (T : Nat → BitVec 32) (rv : Nat → F .f32) : Nat → FVec F S16 .f32
  | 0 => mulf (broadcast S16 (Named.named κ "off_sub_on" 0xBF666632#32)) g
  | n + 1 => addf (outVec g T rv n) (grp T rv n)

/-- A tile's output vector, of the whole argument arrays. -/
def tileOut (fx : S4096x32000.Idx → F .f32) (ft : S4096.Idx → BitVec 32) (B : Nat) : FVec F S16 .f32 :=
  outVec (gsum (fun R => xrow fx (B + R)) (tileT ft B) 128) (tileT ft B) (fun R => rowVal (xrow fx (B + R))) 8

/-- The array the SparseCore kernel leaves: row `w` is the output vector of the tile with the 128 rows from `128 w` on. -/
def parts (fx : S4096x32000.Idx → F .f32) (ft : S4096.Idx → BitVec 32) : S32x16.Idx → F .f32 :=
  fun ix => tileOut fx ft (128 * (ix 0).val) (lane (ix 1))

omit [FloatOps F] [Named F] in
/-- Sixteen targets loaded from place `16 n`. -/
theorem load_tgts (gT : sT.view.ty.Contents (Elt F)) (T : Nat → BitVec 32) (h : tgtOf (sT.view.read (Elt F) gT) = T) (n : Nat) (hn : n < 8)
    (inb : ∀ a, (![16 * n] : Fin 1 → Nat) a + S16.size a ≤ S128.size a) :
    sT.view.readAt (Elt F) (Rect.unit (s := S128) ![16 * n] S16.size inb).toLoadRect gT = fun l => T (16 * n + (l 0).val) := by
  funext l
  have hl : (l 0).val < 16 := (l 0).isLt
  subst h
  rw [View.readAt_apply]
  show _ = sT.view.read (Elt F) gT (ix1 (Fin.ofNat 128 (16 * n + (l 0).val)))
  congr 1
  funext a
  obtain rfl : a = 0 := Subsingleton.elim _ _
  apply Fin.ext
  rw [LoadRect.idx_apply]
  show 16 * n + 1 * (l 0).val = (16 * n + (l 0).val) % 128
  omega

omit [FloatOps F] [Named F] in
/-- Sixteen row sums loaded from place `16 n`. -/
theorem load_sums (g : sR.view.ty.Contents (Elt F)) (rv : Nat → F .f32) (h : Known (sR.view.read (Elt F) g) rv 128) (n : Nat) (hn : n < 8)
    (inb : ∀ a, (![16 * n] : Fin 1 → Nat) a + S16.size a ≤ S128.size a) :
    sR.view.readAt (Elt F) (Rect.unit (s := S128) ![16 * n] S16.size inb).toLoadRect g = fun l => rv (16 * n + (l 0).val) := by
  funext l
  have hl : (l 0).val < 16 := (l 0).isLt
  rw [View.readAt_apply, ← h (16 * n + (l 0).val) (by omega) (by omega)]
  congr 1
  funext a
  obtain rfl : a = 0 := Subsingleton.elim _ _
  apply Fin.ext
  rw [LoadRect.idx_apply]
  show 16 * n + 1 * (l 0).val = 16 * n + (l 0).val
  omega

/-- The first four groups. -/
theorem part10_wp (d : Dev nD) (i : grid0.Coords) (gT : sT.view.ty.Contents (Elt F)) (g6 : sR.view.ty.Contents (Elt F))
    (T : Nat → BitVec 32) (rv : Nat → F .f32) (hT : tgtOf (sT.view.read (Elt F) gT) = T) (hr : Known (sR.view.read (Elt F) g6) rv 128)
    (g : FVec F S16 .f32) (Q : (Σ' (_ : FVec F S16 .f32) (_ : Vec F S16 .i32), BitVec 32) → sProp 𝕄) :
    iprop((sT.view.loc (tile d i) ↦{fullShare} gT) ∗ (sR.view.loc (tile d i) ↦{fullShare} g6)
        ∗ ((sT.view.loc (tile d i) ↦{fullShare} gT) -∗ (sR.view.loc (tile d i) ↦{fullShare} g6)
            -∗ Q ⟨outVec g T rv 4, (fun l => T (16 * 4 + (l 0).val)), 0#32⟩))
      ⊢ wp frame (wpE (defs₀ (F := F)) 𝒱₀ (tile d i) none) Set.univ
          (k0_part10 i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1 g k0_pay48) Q := by
  rw [k0_part10_eq_skeleton]
  unfold k0_part10_skel
  iintro ⟨H5, H6, HQ⟩
  sl_exec
  sl_step
  have t0 : sT.view.readAt (Elt F) (Rect.unit (s := S128) ![0] S16.size inb_S128_S16_0).toLoadRect gT = fun l => T (16 * 0 + (l 0).val) :=
    load_tgts gT T hT 0 (by decide) inb_S128_S16_0
  have t1 : sT.view.readAt (Elt F) (Rect.unit (s := S128) ![16] S16.size inb_S128_S16_16).toLoadRect gT = fun l => T (16 * 1 + (l 0).val) :=
    load_tgts gT T hT 1 (by decide) inb_S128_S16_16
  have t2 : sT.view.readAt (Elt F) (Rect.unit (s := S128) ![32] S16.size inb_S128_S16_32).toLoadRect gT = fun l => T (16 * 2 + (l 0).val) :=
    load_tgts gT T hT 2 (by decide) inb_S128_S16_32
  have t3 : sT.view.readAt (Elt F) (Rect.unit (s := S128) ![48] S16.size inb_S128_S16_48).toLoadRect gT = fun l => T (16 * 3 + (l 0).val) :=
    load_tgts gT T hT 3 (by decide) inb_S128_S16_48
  have t4 : sT.view.readAt (Elt F) (Rect.unit (s := S128) ![64] S16.size inb_S128_S16_64).toLoadRect gT = ((fun l => T (16 * 4 + (l 0).val)) : Vec F S16 .i32) :=
    load_tgts gT T hT 4 (by decide) inb_S128_S16_64
  have r0 : sR.view.readAt (Elt F) (Rect.unit (s := S128) ![0] S16.size inb_S128_S16_0).toLoadRect g6 = fun l => rv (16 * 0 + (l 0).val) :=
    load_sums g6 rv hr 0 (by decide) inb_S128_S16_0
  have r1 : sR.view.readAt (Elt F) (Rect.unit (s := S128) ![16] S16.size inb_S128_S16_16).toLoadRect g6 = fun l => rv (16 * 1 + (l 0).val) :=
    load_sums g6 rv hr 1 (by decide) inb_S128_S16_16
  have r2 : sR.view.readAt (Elt F) (Rect.unit (s := S128) ![32] S16.size inb_S128_S16_32).toLoadRect g6 = fun l => rv (16 * 2 + (l 0).val) :=
    load_sums g6 rv hr 2 (by decide) inb_S128_S16_32
  have r3 : sR.view.readAt (Elt F) (Rect.unit (s := S128) ![48] S16.size inb_S128_S16_48).toLoadRect g6 = fun l => rv (16 * 3 + (l 0).val) :=
    load_sums g6 rv hr 3 (by decide) inb_S128_S16_48
  have hp : k0_pay49 g k0_pay48 (sT.view.readAt (Elt F) (Rect.unit (s := S128) ![0] S16.size inb_S128_S16_0).toLoadRect gT) (sR.view.readAt (Elt F) (Rect.unit (s := S128) ![0] S16.size inb_S128_S16_0).toLoadRect g6)
      (sT.view.readAt (Elt F) (Rect.unit (s := S128) ![16] S16.size inb_S128_S16_16).toLoadRect gT) (sR.view.readAt (Elt F) (Rect.unit (s := S128) ![16] S16.size inb_S128_S16_16).toLoadRect g6)
      (sT.view.readAt (Elt F) (Rect.unit (s := S128) ![32] S16.size inb_S128_S16_32).toLoadRect gT) (sR.view.readAt (Elt F) (Rect.unit (s := S128) ![32] S16.size inb_S128_S16_32).toLoadRect g6)
      (sT.view.readAt (Elt F) (Rect.unit (s := S128) ![48] S16.size inb_S128_S16_48).toLoadRect gT) (sR.view.readAt (Elt F) (Rect.unit (s := S128) ![48] S16.size inb_S128_S16_48).toLoadRect g6) = outVec g T rv 4 := by
    rw [t0, t1, t2, t3, r0, r1, r2, r3]; rfl
  rw [hp, t4]
  ispecialize HQ $$ H5 H6
  iexact HQ

/-- The last four groups and the store. -/
theorem part11_wp (d : Dev nD) (i : grid0.Coords) (gT : sT.view.ty.Contents (Elt F)) (g6 : sR.view.ty.Contents (Elt F))
    (T : Nat → BitVec 32) (rv : Nat → F .f32) (hT : tgtOf (sT.view.read (Elt F) gT) = T) (hr : Known (sR.view.read (Elt F) g6) rv 128)
    (g : FVec F S16 .f32) (f7 : sO.view.ty.Contents (Elt F)) (Q : PUnit → sProp 𝕄) :
    iprop((sT.view.loc (tile d i) ↦{fullShare} gT) ∗ (sR.view.loc (tile d i) ↦{fullShare} g6) ∗ (sO.view.loc (tile d i) ↦{fullShare} f7)
        ∗ (∀ g7, ⌜sO.view.read (Elt F) g7 = outVec g T rv 8⌝ -∗ (sT.view.loc (tile d i) ↦{fullShare} gT)
            -∗ (sR.view.loc (tile d i) ↦{fullShare} g6) -∗ (sO.view.loc (tile d i) ↦{fullShare} g7) -∗ Q ⟨⟩))
      ⊢ wp frame (wpE (defs₀ (F := F)) 𝒱₀ (tile d i) none) Set.univ
          (k0_part11 i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1 (outVec g T rv 4) (fun l => T (16 * 4 + (l 0).val)) 0#32) Q := by
  rw [k0_part11_eq_skeleton]
  unfold k0_part11_skel
  iintro ⟨H5, H6, H7, HQ⟩
  sl_exec
  sl_step
  have t1 := load_tgts gT T hT 5 (by decide) inb_S128_S16_80
  have t2 := load_tgts gT T hT 6 (by decide) inb_S128_S16_96
  have t3 := load_tgts gT T hT 7 (by decide) inb_S128_S16_112
  have r0 := load_sums g6 rv hr 4 (by decide) inb_S128_S16_64
  have r1 := load_sums g6 rv hr 5 (by decide) inb_S128_S16_80
  have r2 := load_sums g6 rv hr 6 (by decide) inb_S128_S16_96
  have r3 := load_sums g6 rv hr 7 (by decide) inb_S128_S16_112
  simp only [Nat.reduceMul] at t1 t2 t3 r0 r1 r2 r3
  rw [t1, t2, t3, r0, r1, r2, r3]
  iapply HQ $$ [] H5 H6 H7
  ipureintro
  funext l
  rw [View.read_writes_cons_unit_of_mem sO.view f7 inb_S16_S16_0 _ [] l l rfl (fun a => by obtain rfl : a = 0 := Subsingleton.elim _ _; exact (Nat.zero_add _).symm)]
  rfl

/-! ## A tile's body -/

/-- The row of the result a tile writes, as its copy's destination. -/
abbrev pSl (i : grid0.Coords) : Memref sig .scVector .hbm S16 .f32 :=
  (pW.slice (Rect.unit (s := S32x16) (k0_off20 i) S1x16.size (k0_off20_inb i)) (fun _ => rfl)).squeeze S16 squeezes_S1x16_S16

/-- Contents that read as the tile's output vector through its row are that row of the result. -/
theorem of_read_pSl (i : grid0.Coords) (fp : S32x16.Idx → F .f32) (fx : S4096x32000.Idx → F .f32) (ft : S4096.Idx → BitVec 32)
    (h : (pSl i).view.read (Elt F) fp = tileOut fx ft (base i)) :
    ∀ ix ∈ (pSl i).view.set, fp ix = parts fx ft ix := by
  intro ix hix
  obtain ⟨j, -, rfl⟩ := Finset.mem_map.mp hix
  refine (congrFun h j).trans ?_
  have e : (pSl i).view.emb j = ix2 (⟨2 * (i 1).val + (i 0).val, by have := (i 0).isLt; have := (i 1).isLt; simp [grid0] at *; omega⟩ : Fin 32) (j 0 : Fin 16) := by
    show (Rect.unit (s := S32x16) (k0_off20 i) S1x16.size (k0_off20_inb i)).emb
      (Shape.reshapeEquiv (s := S1x16) (s' := S16) squeezes_S1x16_S16.numel_eq j) = _
    rw [show Shape.reshapeEquiv (s := S1x16) (s' := S16) squeezes_S1x16_S16.numel_eq j = _ from squeeze_one j _]
    funext a
    apply Fin.ext
    rw [Rect.emb_apply]
    match a with
    | 0 => show k0_off20 i 0 + 1 * 0 = _; rw [k0_off20_eq]; rfl
    | 1 => show k0_off20 i 1 + 1 * (j 0).val = _; rw [k0_off20_eq]; show 0 + 1 * (j 0).val = (j 0).val; omega
  rw [e]
  have hb : base i = 128 * (2 * (i 1).val + (i 0).val) := by unfold base; omega
  rw [hb]
  show tileOut fx ft _ j = tileOut fx ft _ (ix1 (j 0))
  congr 1
  funext a
  obtain rfl : a = 0 := Subsingleton.elim _ _
  rfl

/-- The copy of the output vector to the tile's row of the result, and its wait. -/
def copyOut (i : grid0.Coords) : Prog (TpuEff nD τ sig (Elt F) Λ₀ (.scVector ((i 0).castLE hcore0) ((i 1).castLE hsub0))) PUnit := do
  Prog.lift (.enqueueDma sO (.here (pSl i)) (.dma cc0_scoped1.sem) (Memref.isWhole_whole _).wordExact ((View.wordExact_bits rfl).reshape _ _) ⟨Or.inl rfl, trivial⟩)
  Prog.lift (.waitDma2 cc0_scoped1.sem sO (pSl i) (Memref.isWhole_whole _).wordExact ((View.wordExact_bits rfl).reshape _ _))
  pure ⟨⟩

theorem copyOut_wp (d : Dev nD) (i : grid0.Coords) (fp : Buf (Elt F) (pLoc d)) (g7 : sO.view.ty.Contents (Elt F))
    (O : CellTallies nD τ sig (HIx 1)) (W : Waits sig (HIx 1)) (Q : PUnit → sProp 𝕄) :
    iprop(Transfers.MayWaits (tile d i) none O ∗ ((pSl i).view.loc (tile d i) ↦[(pSl i).view.set]{fullShare} fp)
        ∗ (sO.view.loc (tile d i) ↦{fullShare} g7) ∗ semVal (tile d i, .dma cc0_scoped1.sem) 0 ∗ owed d i O W
        ∗ (∀ fp', ⌜(pSl i).view.read (Elt F) fp' = sO.view.read (Elt F) g7⌝ -∗ ((pSl i).view.loc (tile d i) ↦[(pSl i).view.set]{fullShare} fp')
            -∗ (sO.view.loc (tile d i) ↦{fullShare} g7) -∗ semVal (tile d i, .dma cc0_scoped1.sem) 0 -∗ owed d i O W -∗ Q ⟨⟩))
      ⊢ wp frame (wpE (defs₀ (F := F)) 𝒱₀ (tile d i) none) Set.univ (copyOut (F := F) i) Q := by
  unfold copyOut
  iintro ⟨#Hmw, HP, H7, Hs, ⟨%W', %hW', HO⟩, HQ⟩
  sl_exec
  sl_step
  iapply HQ $$ %_ [] HP H7 [Hs] [HO]
  · ipureintro; exact View.read_writes_whole _ _ _
  · iexact Hs
  · iexists _
    isplitr
    rotate_left
    · iexact HO
    · ipureintro; intro p hp
      rcases Finset.mem_insert.mp hp with h | h
      · exact .inr (by rw [h]; rfl)
      · exact hW' p h

/-- **One tile.** From its rows of the arguments and its row of the result, the body leaves the tile's output vector in that
    row and everything else as it was. -/
theorem tile_core (d : Dev nD) (i : grid0.Coords) (q qT : PosShare TreeShare) (fx : Buf (Elt F) (xLoc d)) (ft : Buf (Elt F) (tLoc d))
    (fp : Buf (Elt F) (pLoc d)) (h0 : ∀ R, (0#32).sle (tileT ft (base i) R)) (h1 : ∀ R, (tileT ft (base i) R).slt 32000#32)
    (O : CellTallies nD τ sig (HIx 1)) (W : Waits sig (HIx 1))
    (f5 : sT.view.ty.Contents (Elt F)) (f6 : sR.view.ty.Contents (Elt F)) (f7 : sO.view.ty.Contents (Elt F))
    (g0 g1 g2 g3 : S16000.Idx → F .f32) (Q : PUnit → sProp 𝕄) :
    iprop(Transfers.MayWaits (tile d i) none O ∗ (xW.view.loc (tile d i) ↦{q} fx) ∗ (tW.view.loc (tile d i) ↦{qT} ft)
        ∗ ((pSl i).view.loc (tile d i) ↦[(pSl i).view.set]{fullShare} fp)
        ∗ (sT.view.loc (tile d i) ↦{fullShare} f5) ∗ (sR.view.loc (tile d i) ↦{fullShare} f6) ∗ (sO.view.loc (tile d i) ↦{fullShare} f7)
        ∗ (b0.view.loc (tile d i) ↦{fullShare} g0) ∗ (b1.view.loc (tile d i) ↦{fullShare} g1)
        ∗ (b2.view.loc (tile d i) ↦{fullShare} g2) ∗ (b3.view.loc (tile d i) ↦{fullShare} g3)
        ∗ semVal (tile d i, .dma cc0_scratch7.sem) 0 ∗ semVal (tile d i, .dma cc0_scratch8.sem) 0
        ∗ semVal (tile d i, .dma cc0_scratch9.sem) 0 ∗ semVal (tile d i, .dma cc0_scratch10.sem) 0
        ∗ semVal (tile d i, .dma cc0_scoped0.sem) 0 ∗ semVal (tile d i, .dma cc0_scoped1.sem) 0 ∗ owes (tile d i) O W
        ∗ ((xW.view.loc (tile d i) ↦{q} fx) -∗ (tW.view.loc (tile d i) ↦{qT} ft)
            -∗ ((pSl i).view.loc (tile d i) ↦[(pSl i).view.set]{fullShare} parts fx ft)
            -∗ (∃ g, sT.view.loc (tile d i) ↦{fullShare} g) -∗ (∃ g, sR.view.loc (tile d i) ↦{fullShare} g)
            -∗ (∃ g, sO.view.loc (tile d i) ↦{fullShare} g)
            -∗ (∃ g, b0.view.loc (tile d i) ↦{fullShare} g) -∗ (∃ g, b1.view.loc (tile d i) ↦{fullShare} g)
            -∗ (∃ g, b2.view.loc (tile d i) ↦{fullShare} g) -∗ (∃ g, b3.view.loc (tile d i) ↦{fullShare} g)
            -∗ semVal (tile d i, .dma cc0_scratch7.sem) 0 -∗ semVal (tile d i, .dma cc0_scratch8.sem) 0
            -∗ semVal (tile d i, .dma cc0_scratch9.sem) 0 -∗ semVal (tile d i, .dma cc0_scratch10.sem) 0
            -∗ semVal (tile d i, .dma cc0_scoped0.sem) 0 -∗ semVal (tile d i, .dma cc0_scoped1.sem) 0 -∗ owed d i O W
            -∗ Q ⟨⟩))
      ⊢ wp frame (wpE (defs₀ (F := F)) 𝒱₀ (tile d i) none) Set.univ
          (cc0__sc_body i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1) Q := by
  rw [show cc0__sc_body (F := F) i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1
      = (k0_part9 i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1 >>= fun v => k0_part10 i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1 v.1 v.2
          >>= fun w => k0_part11 i xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1 w.1 w.2.1 w.2.2 >>= fun _ => copyOut i) from rfl]
  iintro ⟨#Hmw, Hx, HT, HP, H5, H6, H7, Hb0, Hb1, Hb2, Hb3, Hs0, Hs1, Hs2, Hs3, Hs4, Hs5, HO, HQ⟩
  rw [wp_bind]
  iapply (part9_wp d i q qT fx ft h0 h1 O W f5 f6 g0 g1 g2 g3 _)
  isplitr
  · iexact Hmw
  isplitl [Hx]; · iexact Hx
  isplitl [HT]; · iexact HT
  isplitl [H5]; · iexact H5
  isplitl [H6]; · iexact H6
  isplitl [Hb0]; · iexact Hb0
  isplitl [Hb1]; · iexact Hb1
  isplitl [Hb2]; · iexact Hb2
  isplitl [Hb3]; · iexact Hb3
  isplitl [Hs0]; · iexact Hs0
  isplitl [Hs1]; · iexact Hs1
  isplitl [Hs2]; · iexact Hs2
  isplitl [Hs3]; · iexact Hs3
  isplitl [Hs4]; · iexact Hs4
  isplitl [HO]; · iexact HO
  iintro %gT %g6 %hg Hx HT H5 H6 B0 B1 B2 B3 Hs0 Hs1 Hs2 Hs3 Hs4 ⟨%W', %hW', HO⟩
  rw [wp_bind]
  iapply (part10_wp d i gT g6 _ _ hg.1 hg.2 _ _)
  isplitl [H5]; · iexact H5
  isplitl [H6]; · iexact H6
  iintro H5 H6
  rw [wp_bind]
  iapply (part11_wp d i gT g6 _ _ hg.1 hg.2 _ f7 _)
  isplitl [H5]; · iexact H5
  isplitl [H6]; · iexact H6
  isplitl [H7]; · iexact H7
  iintro %g7 %h7 H5 H6 H7
  iapply (copyOut_wp d i fp g7 O W _)
  isplitr
  · iexact Hmw
  isplitl [HP]; · iexact HP
  isplitl [H7]; · iexact H7
  isplitl [Hs5]; · iexact Hs5
  isplitl [HO]
  · unfold owed
    iexists W'
    isplitr
    · ipureintro; exact hW'
    · iexact HO
  iintro %fp' %hfp HP H7 Hs5 HO
  ihave HP := (Entails.of_eq (pointsTo_congr (of_read_pSl i fp' fx ft (hfp.trans h7)))) $$ HP
  iapply HQ $$ Hx HT HP [H5] [H6] [H7] B0 B1 B2 B3 Hs0 Hs1 Hs2 Hs3 [Hs4] [Hs5] [HO]
  · iexists gT; iexact H5
  · iexists g6; iexact H6
  · iexists g7; iexact H7
  · iexact Hs4
  · iexact Hs5
  · iexact HO

end Cert.Proof.Smooth

end
-- ==== Proof.Tile.lean ====
/-
  One tile's task as the launch theorem asks for it: from the tile's shares of `x` and `target`, its row of the
  partial sums, its scoped buffers and semaphores, the body ends with the row at the tile's sixteen numbers.
-/
module

public import proofs.«01_k».proof.Proof.Epilogue

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type}

local notation "𝕄" => MT nD τ sig (HIx 1) (Elt F) ℕ UU ℕ

/-! ## The scoped storage -/

/-- The DMA semaphore cell `s` of a tile. -/
abbrev dcell (d : Dev nD) (L : grid0.Coords) (s : DmaSem sig) : GSem nD τ sig := (tile d L, .dma s)

theorem dcell_mem (d : Dev nD) (L : grid0.Coords) (s : DmaSem sig) (h : (SemLoc.dma s : SemLoc sig).isScoped .scVector = true) :
    dcell d L s ∈ ownCells (tile d L) := (mem_ownCells (g := dcell d L s)).mpr ⟨rfl, h⟩

theorem dcell_ne (d : Dev nD) (L : grid0.Coords) {s s' : DmaSem sig} (h : s ≠ s') : dcell d L s ≠ dcell d L s' := by
  intro e
  have := congrArg Prod.snd e
  exact h (SemLoc.dma.inj this)

/-- The six cells the body uses, apart from the rest of the tile's own cells. -/
theorem ownSems0_V (d : Dev nD) (L : grid0.Coords) :
    (ownSems0 (tile d L) : sProp 𝕄)
      = iprop(semVal (dcell d L cc0_scratch7.sem) 0 ∗ semVal (dcell d L cc0_scratch8.sem) 0 ∗ semVal (dcell d L cc0_scratch9.sem) 0
          ∗ semVal (dcell d L cc0_scratch10.sem) 0 ∗ semVal (dcell d L cc0_scoped0.sem) 0 ∗ semVal (dcell d L cc0_scoped1.sem) 0
          ∗ bigSep (((((((ownCells (tile d L)).erase (dcell d L cc0_scratch7.sem)).erase (dcell d L cc0_scratch8.sem)).erase
              (dcell d L cc0_scratch9.sem)).erase (dcell d L cc0_scratch10.sem)).erase (dcell d L cc0_scoped0.sem)).erase (dcell d L cc0_scoped1.sem))
              fun g => semVal g 0) := by
  have m0 := dcell_mem d L cc0_scratch7.sem (by decide)
  have m1 := Finset.mem_erase.mpr ⟨dcell_ne d L (s := cc0_scratch8.sem) (s' := cc0_scratch7.sem) (by decide), dcell_mem d L cc0_scratch8.sem (by decide)⟩
  have m2 := Finset.mem_erase.mpr ⟨dcell_ne d L (s := cc0_scratch9.sem) (s' := cc0_scratch8.sem) (by decide),
    Finset.mem_erase.mpr ⟨dcell_ne d L (s := cc0_scratch9.sem) (s' := cc0_scratch7.sem) (by decide), dcell_mem d L cc0_scratch9.sem (by decide)⟩⟩
  have m3 := Finset.mem_erase.mpr ⟨dcell_ne d L (s := cc0_scratch10.sem) (s' := cc0_scratch9.sem) (by decide),
    Finset.mem_erase.mpr ⟨dcell_ne d L (s := cc0_scratch10.sem) (s' := cc0_scratch8.sem) (by decide),
    Finset.mem_erase.mpr ⟨dcell_ne d L (s := cc0_scratch10.sem) (s' := cc0_scratch7.sem) (by decide), dcell_mem d L cc0_scratch10.sem (by decide)⟩⟩⟩
  have m4 := Finset.mem_erase.mpr ⟨dcell_ne d L (s := cc0_scoped0.sem) (s' := cc0_scratch10.sem) (by decide),
    Finset.mem_erase.mpr ⟨dcell_ne d L (s := cc0_scoped0.sem) (s' := cc0_scratch9.sem) (by decide),
    Finset.mem_erase.mpr ⟨dcell_ne d L (s := cc0_scoped0.sem) (s' := cc0_scratch8.sem) (by decide),
    Finset.mem_erase.mpr ⟨dcell_ne d L (s := cc0_scoped0.sem) (s' := cc0_scratch7.sem) (by decide), dcell_mem d L cc0_scoped0.sem (by decide)⟩⟩⟩⟩
  have m5 := Finset.mem_erase.mpr ⟨dcell_ne d L (s := cc0_scoped1.sem) (s' := cc0_scoped0.sem) (by decide),
    Finset.mem_erase.mpr ⟨dcell_ne d L (s := cc0_scoped1.sem) (s' := cc0_scratch10.sem) (by decide),
    Finset.mem_erase.mpr ⟨dcell_ne d L (s := cc0_scoped1.sem) (s' := cc0_scratch9.sem) (by decide),
    Finset.mem_erase.mpr ⟨dcell_ne d L (s := cc0_scoped1.sem) (s' := cc0_scratch8.sem) (by decide),
    Finset.mem_erase.mpr ⟨dcell_ne d L (s := cc0_scoped1.sem) (s' := cc0_scratch7.sem) (by decide), dcell_mem d L cc0_scoped1.sem (by decide)⟩⟩⟩⟩⟩
  unfold SparseCore.Cfg.ownSems0
  rw [SparseCore.bigSep_erase' m0, SparseCore.bigSep_erase' m1, SparseCore.bigSep_erase' m2, SparseCore.bigSep_erase' m3,
    SparseCore.bigSep_erase' m4, SparseCore.bigSep_erase' m5]

/-- A vector subcore's buffer `r`, as a buffer of the device. -/
abbrev dref (L : grid0.Coords) (r : Ref sig .scVector) : DevRef τ sig := (Proc.scVector (cV L) (jV L)).devRef r

theorem dref_ne (L : grid0.Coords) {r r' : Ref sig .scVector} (h : r ≠ r') : dref L r ≠ dref L r' :=
  fun e => h (Proc.devRef_injective _ e)

theorem dref_mem (L : grid0.Coords) (r : Ref sig .scVector) (h : (dref L r).owner = .proc (.scVector (cV L) (jV L))) :
    dref L r ∈ ownRefs (τ := τ) (.scVector (cV L) (jV L)) :=
  SparseCore.Cfg.mem_ownRefs_of_owner (p := Proc.scVector (cV L) (jV L)) (b := dref L r) h

/-- The seven scratch buffers of the body, each whole at some contents, apart from the rest of the tile's own buffers. -/
theorem ownBufs_V (d : Dev nD) (L : grid0.Coords) :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ (∃ f, (tile d L).loc cc0_scratch4 ↦{fullShare} f) ∗ (∃ f, (tile d L).loc cc0_scratch5 ↦{fullShare} f)
          ∗ (∃ f, (tile d L).loc cc0_scratch6 ↦{fullShare} f)
          ∗ bigSep ((((((((ownRefs (τ := τ) (.scVector (cV L) (jV L))).erase (dref L cc0_scratch0)).erase (dref L cc0_scratch1)).erase
              (dref L cc0_scratch2)).erase (dref L cc0_scratch3)).erase (dref L cc0_scratch4)).erase (dref L cc0_scratch5)).erase (dref L cc0_scratch6))
              fun b => iprop(∃ f, ((d, b) : Loc nD τ sig) ↦{fullShare} f)) := by
  have n : ∀ {r r' : Ref sig .scVector}, r ≠ r' → dref L r ≠ dref L r' := dref_ne L
  have m1 := Finset.mem_erase.mpr ⟨n (r := cc0_scratch1) (r' := cc0_scratch0) (by decide), dref_mem L cc0_scratch1 rfl⟩
  have m2 := Finset.mem_erase.mpr ⟨n (r := cc0_scratch2) (r' := cc0_scratch1) (by decide),
    Finset.mem_erase.mpr ⟨n (r := cc0_scratch2) (r' := cc0_scratch0) (by decide), dref_mem L cc0_scratch2 rfl⟩⟩
  have m3 := Finset.mem_erase.mpr ⟨n (r := cc0_scratch3) (r' := cc0_scratch2) (by decide),
    Finset.mem_erase.mpr ⟨n (r := cc0_scratch3) (r' := cc0_scratch1) (by decide),
    Finset.mem_erase.mpr ⟨n (r := cc0_scratch3) (r' := cc0_scratch0) (by decide), dref_mem L cc0_scratch3 rfl⟩⟩⟩
  have m4 := Finset.mem_erase.mpr ⟨n (r := cc0_scratch4) (r' := cc0_scratch3) (by decide),
    Finset.mem_erase.mpr ⟨n (r := cc0_scratch4) (r' := cc0_scratch2) (by decide),
    Finset.mem_erase.mpr ⟨n (r := cc0_scratch4) (r' := cc0_scratch1) (by decide),
    Finset.mem_erase.mpr ⟨n (r := cc0_scratch4) (r' := cc0_scratch0) (by decide), dref_mem L cc0_scratch4 rfl⟩⟩⟩⟩
  have m5 := Finset.mem_erase.mpr ⟨n (r := cc0_scratch5) (r' := cc0_scratch4) (by decide),
    Finset.mem_erase.mpr ⟨n (r := cc0_scratch5) (r' := cc0_scratch3) (by decide),
    Finset.mem_erase.mpr ⟨n (r := cc0_scratch5) (r' := cc0_scratch2) (by decide),
    Finset.mem_erase.mpr ⟨n (r := cc0_scratch5) (r' := cc0_scratch1) (by decide),
    Finset.mem_erase.mpr ⟨n (r := cc0_scratch5) (r' := cc0_scratch0) (by decide), dref_mem L cc0_scratch5 rfl⟩⟩⟩⟩⟩
  have m6 := Finset.mem_erase.mpr ⟨n (r := cc0_scratch6) (r' := cc0_scratch5) (by decide),
    Finset.mem_erase.mpr ⟨n (r := cc0_scratch6) (r' := cc0_scratch4) (by decide),
    Finset.mem_erase.mpr ⟨n (r := cc0_scratch6) (r' := cc0_scratch3) (by decide),
    Finset.mem_erase.mpr ⟨n (r := cc0_scratch6) (r' := cc0_scratch2) (by decide),
    Finset.mem_erase.mpr ⟨n (r := cc0_scratch6) (r' := cc0_scratch1) (by decide),
    Finset.mem_erase.mpr ⟨n (r := cc0_scratch6) (r' := cc0_scratch0) (by decide), dref_mem L cc0_scratch6 rfl⟩⟩⟩⟩⟩⟩
  unfold SparseCore.Cfg.ownBufs
  refine (SparseCore.bigSep_erase' (dref_mem L cc0_scratch0 rfl)).trans ?_
  rw [SparseCore.bigSep_erase' m1, SparseCore.bigSep_erase' m2, SparseCore.bigSep_erase' m3, SparseCore.bigSep_erase' m4,
    SparseCore.bigSep_erase' m5, SparseCore.bigSep_erase' m6]

/-! ## The task -/

variable [FloatOps F] [Named F]

/-- The share of `x` and of `target` the tile at grid point `L` reads through. -/
def tq (L : grid0.Coords) : PosShare TreeShare :=
  Transfers.shareTok (Transfers.shareTok fullShare 2 (L 0)) 16 (L 1)

/-- Row `L` of the partial sums at contents `f`. -/
abbrev pRow (d : Dev nD) (L : grid0.Coords) (f : Buf (Elt F) (pLoc d)) : sProp 𝕄 := pLoc d ↦[(pSl L).view.set]{fullShare} f

/-- What a task is handed, and what it brings back: shares of the two inputs and its row. -/
abbrev task (m : (ℓ : Loc nD τ sig) → Buf (Elt F) ℓ) (d : Dev nD) (L : grid0.Coords) (f : Buf (Elt F) (pLoc d)) : sProp 𝕄 :=
  iprop((xLoc d ↦{tq L} m (xLoc d)) ∗ (tLoc d ↦{tq L} m (tLoc d)) ∗ pRow d L f)

/-- Every target of device `d` is a column: signed at least zero and less than 32000. -/
def Tgts (m : (ℓ : Loc nD τ sig) → Buf (Elt F) ℓ) : Prop :=
  ∀ (d : Dev nD) (k : S4096.Idx), (0#32).sle (m (tLoc d) k) ∧ BitVec.slt (m (tLoc d) k) 32000#32

theorem tile_body (m : (ℓ : Loc nD τ sig) → Buf (Elt F) ℓ) (hm : Tgts m) (d : Dev nD) (L : grid0.Coords) (hF : (K (F := F)).Facts)
    (O : CellTallies nD τ sig (HIx 1)) (W : Waits sig (HIx 1)) (hO : ∀ g, O g none = 0) :
    iprop(levAts (K (F := F)).L (K (F := F)).lev ∗ emp ∗ task m d L (m (pLoc d))
        ∗ scopedBufs (tile d L) ∗ scopedSems0 (tile d L) ∗ owes (tile d L) O W)
      ⊢ wp frame (wpE (defs₀ (F := F)) 𝒱₀ (tile d L) none) Set.univ
          (cc0__sc_body L xW (Memref.isWhole_whole _) tW (Memref.isWhole_whole _) pW (Memref.isWhole_whole _) sT (Memref.isWhole_whole _) sR (Memref.isWhole_whole _) sO (Memref.isWhole_whole _)
            b0 (Memref.isWhole_whole _) b1 (Memref.isWhole_whole _) b2 (Memref.isWhole_whole _) b3 (Memref.isWhole_whole _)
            cc0_scratch7 cc0_scratch8 cc0_scratch9 cc0_scratch10 cc0_scoped0 cc0_scoped1)
          fun _ => iprop(task m d L (parts (m (xLoc d)) (m (tLoc d)))
            ∗ scopedBufs (tile d L) ∗ scopedSems0 (tile d L)
            ∗ ∃ W', ⌜∀ p ∈ W', p ∈ W ∨ p.2 = none ∨ p.2 = some (0 : Fin 1)⌝ ∗ owes (tile d L) O W') := by
  rw [(K (F := F)).scopedBufs_V hF d (cV L) (jV L), SparseCore.Cfg.scopedSems0_V (Val := Elt F) d (cV L) (jV L), ownSems0_V, ownBufs_V]
  iintro ⟨#Hlv, -, ⟨Hx, HT, HP⟩, ⟨⟨%f0, B0⟩, ⟨%f1, B1⟩, ⟨%f2, B2⟩, ⟨%f3, B3⟩, ⟨%f4, B4⟩, ⟨%f5, B5⟩, ⟨%f6, B6⟩, Hbufs⟩, ⟨S0, S1, S2, S3, S4, S5, Hsems⟩, HO⟩
  ihave Hmw := (show levAts (K (F := F)).L (K (F := F)).lev ⊢ Transfers.MayWaits (tile d L) (none : HIx 1) O from
    (K (F := F)).mayWaits_none (thr := tile d L) hO) $$ Hlv
  iapply (tile_core d L (tq L) (tq L) (m (xLoc d)) (m (tLoc d)) (m (pLoc d)) (fun R => (hm d _).1) (fun R => (hm d _).2) O W f0 f1 f2 f3 f4 f5 f6 _)
    $$ [Hmw Hx HT HP B0 B1 B2 B3 B4 B5 B6 S0 S1 S2 S3 S4 S5 Hbufs Hsems HO]
  isplitl [Hmw]; · iexact Hmw
  isplitl [Hx]; · iexact Hx
  isplitl [HT]; · iexact HT
  isplitl [HP]; · iexact HP
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [S0]; · iexact S0
  isplitl [S1]; · iexact S1
  isplitl [S2]; · iexact S2
  isplitl [S3]; · iexact S3
  isplitl [S4]; · iexact S4
  isplitl [S5]; · iexact S5
  isplitl [HO]; · iexact HO
  iintro Hx HT HP B0 B1 B2 B3 B4 B5 B6 S0 S1 S2 S3 S4 S5 HO
  icases HO with ⟨%W', %hW, HO⟩
  isplitl [Hx HT HP]
  · isplitl [Hx]; · iexact Hx
    isplitl [HT]; · iexact HT
    iexact HP
  isplitl [B0 B1 B2 B3 B4 B5 B6 Hbufs]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact Hbufs
  isplitl [S0 S1 S2 S3 S4 S5 Hsems]
  · isplitl [S0]; · iexact S0
    isplitl [S1]; · iexact S1
    isplitl [S2]; · iexact S2
    isplitl [S3]; · iexact S3
    isplitl [S4]; · iexact S4
    isplitl [S5]; · iexact S5
    iexact Hsems
  iexists W'; isplitr
  · ipureintro; intro p hp
    rcases hW p hp with h | h
    · exact .inl h
    · exact .inr (.inl h)
  iexact HO

end Cert.Proof.Smooth

end
-- ==== Proof.Deal.lean ====
/-
  What the one SparseCore call takes and brings back. Each SparseCore gets a share of `x` and of `target` and its
  sixteen rows of the partial sums; each of its tiles gets a share of that share and one row, and brings the row back
  at the tile's sixteen numbers.
-/
module

public import proofs.«01_k».proof.Proof.Tile

@[expose] public section

set_option maxRecDepth 16384

noncomputable section

namespace Cert.Proof.Smooth

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- The grid point of task `i` of the call on its SparseCore `c`. -/
abbrev pt (c : Fin ((K (F := F)).nCore 0)) (i : Fin ((K (F := F)).nSub 0)) : grid0.Coords :=
  coordsV (Fin.cast (nCore_zero (F := F)) c) (Fin.cast (nSub_zero (F := F)) i)

variable (m : (ℓ : Loc nD τ sig) → Buf (Elt F) ℓ)

/-- The share of the two inputs that SparseCore `c` gets. -/
abbrev cq (c : Fin 2) : PosShare TreeShare := Transfers.shareTok fullShare 2 c

/-- What SparseCore `c` gets and brings back: its shares of the inputs and its sixteen rows. -/
abbrev core (d : Dev nD) (c : Fin 2) (f : Buf (Elt F) (pLoc d)) : sProp 𝕄 :=
  iprop((xLoc d ↦{cq c} m (xLoc d)) ∗ (tLoc d ↦{cq c} m (tLoc d)) ∗ bigSep Finset.univ fun i : Fin 16 => pRow d (coordsV c i) f)

/-- The contents of the partial sums after the call. -/
abbrev pOut (d : Dev nD) : Buf (Elt F) (pLoc d) := parts (m (xLoc d)) (m (tLoc d))

def P : (K (F := F)).Pay (nD := nD) (Val := Elt F) (Name := ℕ) (U := UU) where
  st := fun q d c => match q with | 0 => core m d (Fin.cast (nCore_zero (F := F)) c) (m (pLoc d))
  dn := fun q d c => match q with | 0 => core m d (Fin.cast (nCore_zero (F := F)) c) (pOut m d)
  go := fun q d c i => match q with | 0 => task m d (pt c i) (m (pLoc d))
  td := fun q d c i => match q with | 0 => task m d (pt c i) (pOut m d)
  x := fun _ _ => iprop(emp)

instance P_storable : (P (F := F) m).IsStorable where
  st q d c := match q with
    | 0 => (inferInstance : BI.Storable (upEmb : UEmb _ 𝕄) (core m d (Fin.cast (nCore_zero (F := F)) c) (m (pLoc d))))
  dn q d c := match q with
    | 0 => (inferInstance : BI.Storable (upEmb : UEmb _ 𝕄) (core m d (Fin.cast (nCore_zero (F := F)) c) (pOut m d)))
  go q d c i := match q with
    | 0 => (inferInstance : BI.Storable (upEmb : UEmb _ 𝕄) (task m d (pt c i) (m (pLoc d))))
  td q d c i := match q with
    | 0 => (inferInstance : BI.Storable (upEmb : UEmb _ 𝕄) (task m d (pt c i) (pOut m d)))

/-! ## The obligation of a tile -/

theorem defs₀_vector (c : Fin τ.nSC) (s : Fin τ.nSub) :
    defs₀ (F := F) (.scVector c s) 0 ()
      = SparseCore.onTile hcore0 hsub0 (fun c s => cc0__sc_body (coordsV c s)
          xW (Memref.isWhole_whole _) tW (Memref.isWhole_whole _) pW (Memref.isWhole_whole _) sT (Memref.isWhole_whole _) sR (Memref.isWhole_whole _) sO (Memref.isWhole_whole _)
          b0 (Memref.isWhole_whole _) b1 (Memref.isWhole_whole _) b2 (Memref.isWhole_whole _) b3 (Memref.isWhole_whole _)
          cc0_scratch7 cc0_scratch8 cc0_scratch9 cc0_scratch10 cc0_scoped0 cc0_scoped1) ⟨⟩ c s := rfl

theorem tileObl (hm : Tgts m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hm d (coordsV ⟨_, hci.1⟩ ⟨_, hci.2⟩) hF O W hO

/-! ## A SparseCore's resources split over its tiles -/

theorem bigSep_tasks (Φ : Fin 16 → sProp 𝕄) :
    (bigSep Finset.univ fun i : Fin ((K (F := F)).nSub 0) => Φ (Fin.cast (nSub_zero (F := F)) i)) = bigSep Finset.univ Φ :=
  bigSep_congr fun _ _ => congrArg Φ (Fin.ext rfl)

/-- A SparseCore's share of an input is what is left of it and a share for each tile. -/
theorem cq_split (ℓ : Loc nD τ sig) (f : Buf (Elt F) ℓ) (c : Fin 2) :
    (ℓ ↦{cq c} f : sProp 𝕄) = iprop((ℓ ↦{Transfers.shareDrop (cq c) 16} f) ∗ bigSep Finset.univ fun i : Fin 16 => ℓ ↦{tq (coordsV c i)} f) :=
  have h := Transfers.pointsTo_toks (Val := Elt F) (Ix := HIx 1) (Name := ℕ) (U := UU) (Lvl := ℕ) (ℓ := ℓ) (S := Finset.univ) (f := f) (cq c) 16
  BI.equiv_iff.mp ⟨h.1, h.2⟩

theorem vecSplit : (K (F := F)).VecSplit' (P m) 0 := by
  intro d c
  show core m d (Fin.cast (nCore_zero (F := F)) c) (m (pLoc d)) ⊢ |={Set.univ}=> iprop(
      (bigSep Finset.univ fun i : Fin ((K (F := F)).nSub 0) => task m d (pt c i) (m (pLoc d)))
      ∗ ((bigSep Finset.univ fun i : Fin ((K (F := F)).nSub 0) => task m d (pt c i) (pOut m d))
          -∗ core m d (Fin.cast (nCore_zero (F := F)) c) (pOut m d)))
  have e : ∀ f, (bigSep Finset.univ fun i : Fin ((K (F := F)).nSub 0) => (task m d (pt c i) f : sProp 𝕄))
      = bigSep Finset.univ fun i : Fin 16 => task m d (coordsV (Fin.cast (nCore_zero (F := F)) c) i) f := fun f =>
    bigSep_tasks (F := F) (fun i => task m d (coordsV (Fin.cast (nCore_zero (F := F)) c) i) f)
  rw [e, e,
    bigSep_sep', bigSep_sep', bigSep_sep', bigSep_sep']
  unfold core
  rw [cq_split, cq_split]
  iintro ⟨⟨Dx, Hx⟩, ⟨Dt, Ht⟩, HP⟩; imodintro
  isplitl [Hx Ht HP]
  · isplitl [Hx]; · iexact Hx
    isplitl [Ht]; · iexact Ht
    iexact HP
  iintro ⟨Hx, Ht, HP⟩
  isplitl [Dx Hx]
  · isplitl [Dx]; · iexact Dx
    iexact Hx
  isplitl [Dt Ht]
  · isplitl [Dt]; · iexact Dt
    iexact Ht
  iexact HP

/-! ## The arrays split over the two SparseCores -/

/-- The row of the partial sums that the tile at `L` writes. -/
def rowIx (L : grid0.Coords) : Nat := 2 * (L 1).val + (L 0).val

theorem emb_pSl (L : grid0.Coords) (j : S16.Idx) :
    (((pSl L).view.emb j : S32x16.Idx) 0).val = rowIx L ∧ (((pSl L).view.emb j : S32x16.Idx) 1).val = (j 0).val := by
  have e : ((pSl L).view.emb j : S32x16.Idx) = (Rect.unit (s := S32x16) (k0_off20 L) S1x16.size (k0_off20_inb L)).emb
      (Shape.reshapeEquiv (s := S1x16) (s' := S16) squeezes_S1x16_S16.numel_eq j) := rfl
  rw [e, show Shape.reshapeEquiv (s := S1x16) (s' := S16) squeezes_S1x16_S16.numel_eq j = _ from squeeze_one j _, Rect.emb_apply, Rect.emb_apply]
  constructor
  · show k0_off20 L 0 + 1 * 0 = _; rw [k0_off20_eq]; rfl
  · show k0_off20 L 1 + 1 * (j 0).val = _; rw [k0_off20_eq]; show 0 + 1 * (j 0).val = (j 0).val; omega

/-- The places a tile writes are the places of its row. -/
theorem mem_pSl (L : grid0.Coords) (ix : S32x16.Idx) : ix ∈ (pSl L).view.set ↔ (ix 0).val = rowIx L := by
  constructor
  · intro h
    obtain ⟨j, -, rfl⟩ := Finset.mem_map.mp h
    exact (emb_pSl L j).1
  · intro h
    refine Finset.mem_map.mpr ⟨ix1 (ix 1), Finset.mem_univ _, ?_⟩
    funext a
    apply Fin.ext
    match a with
    | 0 => exact (emb_pSl L _).1.trans h.symm
    | 1 => exact (emb_pSl L _).2

/-- The row of tile `ci.2` of SparseCore `ci.1`. -/
def rowSet (ci : Fin 2 × Fin 16) : Finset S32x16.Idx := (pSl (coordsV ci.1 ci.2)).view.set

theorem mem_rowSet (ci : Fin 2 × Fin 16) (ix : S32x16.Idx) : ix ∈ rowSet ci ↔ (ix 0).val = 2 * ci.2.val + ci.1.val :=
  mem_pSl (coordsV ci.1 ci.2) ix

theorem rows_disjoint : ∀ a ∈ (Finset.univ : Finset (Fin 2 × Fin 16)), ∀ b ∈ (Finset.univ : Finset (Fin 2 × Fin 16)), a ≠ b →
    Disjoint (rowSet a) (rowSet b) := by
  intro a _ b _ hab
  refine Finset.disjoint_left.mpr fun ix ha hb => hab ?_
  have ha := ((mem_rowSet _ ix).mp ha).symm.trans ((mem_rowSet _ ix).mp hb)
  exact Prod.ext (Fin.ext (by omega)) (Fin.ext (by omega))

theorem rows_cover : (Finset.univ : Finset (Fin 2 × Fin 16)).biUnion rowSet = Finset.univ := by
  refine Finset.eq_univ_iff_forall.mpr fun ix => Finset.mem_biUnion.mpr ?_
  have h : (ix 0).val < 32 := (ix 0).isLt
  refine ⟨(⟨(ix 0).val % 2, Nat.mod_lt _ (by decide)⟩, ⟨(ix 0).val / 2, by omega⟩), Finset.mem_univ _, (mem_rowSet _ ix).mpr ?_⟩
  show _ = 2 * ((ix 0).val / 2) + (ix 0).val % 2
  omega

/-- The partial sums whole are the rows of the two SparseCores' tiles. -/
theorem p_rows (d : Dev nD) (f : Buf (Elt F) (pLoc d)) :
    (pLoc d ↦{fullShare} f : sProp 𝕄)
      = bigSep Finset.univ fun c : Fin 2 => bigSep Finset.univ fun i : Fin 16 => pRow d (coordsV c i) f := by
  rw [← bigSep_univ_prod (fun ci : Fin 2 × Fin 16 => (pRow d (coordsV ci.1 ci.2) f : sProp 𝕄))]
  show _ = bigSep Finset.univ fun ci : Fin 2 × Fin 16 => (pLoc d ↦[rowSet ci]{fullShare} f : sProp 𝕄)
  rw [← pointsTo_biUnion Finset.univ (ℓ := pLoc d) rowSet rows_disjoint, rows_cover]

/-- An input whole is what is left of it and a share for each SparseCore. -/
theorem full_split (ℓ : Loc nD τ sig) (f : Buf (Elt F) ℓ) :
    (ℓ ↦{fullShare} f : sProp 𝕄) = iprop((ℓ ↦{Transfers.shareDrop fullShare 2} f) ∗ bigSep Finset.univ fun c : Fin 2 => ℓ ↦{cq c} f) :=
  have h := Transfers.pointsTo_toks (Val := Elt F) (Ix := HIx 1) (Name := ℕ) (U := UU) (Lvl := ℕ) (ℓ := ℓ) (S := Finset.univ) (f := f) fullShare 2
  BI.equiv_iff.mp ⟨h.1, h.2⟩

/-- The two inputs and the partial sums whole are what the SparseCores get, and what is left of the inputs. -/
theorem deal_eq (d : Dev nD) (f : Buf (Elt F) (pLoc d)) :
    iprop((xLoc d ↦{fullShare} m (xLoc d)) ∗ (tLoc d ↦{fullShare} m (tLoc d)) ∗ (pLoc d ↦{fullShare} f) : sProp 𝕄)
      ⊣⊢ iprop((xLoc d ↦{Transfers.shareDrop fullShare 2} m (xLoc d)) ∗ (tLoc d ↦{Transfers.shareDrop fullShare 2} m (tLoc d))
          ∗ bigSep Finset.univ fun c : Fin 2 => core m d c f) := by
  rw [full_split, full_split (tLoc d), p_rows, bigSep_sep', bigSep_sep']
  constructor
  · iintro ⟨⟨Dx, Hx⟩, ⟨Dt, Ht⟩, HP⟩
    isplitl [Dx]; · iexact Dx
    isplitl [Dt]; · iexact Dt
    isplitl [Hx]; · iexact Hx
    isplitl [Ht]; · iexact Ht
    iexact HP
  · iintro ⟨Dx, Dt, Hx, Ht, HP⟩
    isplitl [Dx Hx]
    · isplitl [Dx]; · iexact Dx
      iexact Hx
    isplitl [Dt Ht]
    · isplitl [Dt]; · iexact Dt
      iexact Ht
    iexact HP

end Cert.Proof.Smooth

end
-- ==== Proof.Point.lean ====
/-
  One grid point of the TensorCore kernel: what the running total becomes, as a function of the point, the block of
  `x`, the targets and the total before it, and the body's run to that.
-/
module

public import proofs.«01_k».proof.Proof.Base
public import Idealize.ShloMosaic.Lib.VecWindow

@[expose] public section

set_option maxRecDepth 16384

noncomputable section

namespace Cert.Proof.Smooth

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic

variable {F : FTy → Type} [FloatOps F] [Named F]

local notation "𝕄" => MT nD τ sig (HIx 1) (Elt F) ℕ UU ℕ

/-- The block of targets a grid point reads. -/
def tgtBlk (i : grid1.Coords) (G : S16x256x1.Idx → BitVec 32) : Vec F S1x256x1 .i32 :=
  fun j => G ((Rect.unit (s := S16x256x1) (k1_off1 i) S1x256x1.size (k1_off1_inb i)).emb j)

/-- The total as a grid point starts from it: zero at the first. -/
def accStart (i : grid1.Coords) (a : F .f32) : F .f32 := if (i 0).val = 0 ∧ (i 1).val = 0 then zF else a

/-- The total after the part that only the first block of columns adds. -/
def accCol (i : grid1.Coords) (X : S256x3200.Idx → F .f32) (G : S16x256x1.Idx → BitVec 32) (a : F .f32) : F .f32 :=
  if (i 1).val = 0 then k1_pay1 (k1_pay4 (F := F) (tgtBlk (F := F) i G)) X (accStart i a) else accStart i a

/-- The total after a grid point. -/
def accNext (i : grid1.Coords) (X : S256x3200.Idx → F .f32) (G : S16x256x1.Idx → BitVec 32) (a : F .f32) : F .f32 :=
  k1_pay2 (k1_pay5 i (tgtBlk (F := F) i G) X) (accCol i X G a)

theorem cond_first (i : grid1.Coords) :
    Scalar.cmpi .ne (Scalar.extui (Scalar.andi (Scalar.cmpi .eq (BitVec.ofNat 32 (i 0).val) 0#32) (Scalar.cmpi .eq (BitVec.ofNat 32 (i 1).val) 0#32)) : BitVec 32) 0#32 = 1#1
      ↔ (i 0).val = 0 ∧ (i 1).val = 0 := by
  have h0 : (i 0).val < 16 := (i 0).isLt
  have h1 : (i 1).val < 5 := (i 1).isLt
  generalize (i 0).val = a at *
  generalize (i 1).val = b at *
  interval_cases a <;> interval_cases b <;> simp <;> decide

theorem cond_col (i : grid1.Coords) :
    Scalar.cmpi .ne (Scalar.extui (Scalar.cmpi .eq (BitVec.ofNat 32 (i 1).val) 0#32) : BitVec 32) 0#32 = 1#1 ↔ (i 1).val = 0 := by
  have h1 : (i 1).val < 5 := (i 1).isLt
  generalize (i 1).val = b at *
  interval_cases b <;> simp <;> decide

abbrev pts (c : Dev nD) {sp : Space} {S : Shape} {e : EltTy} (M : Memref sig .tc sp S e) (f : Buf (Elt F) (M.view.loc (c : Thread nD τ))) : sProp 𝕄 :=
  M.view.loc (c : Thread nD τ) ↦{fullShare} f

theorem body1_wp (c : Dev nD) (i : grid1.Coords) (M2 : Memref sig .tc .vmem S256x3200 .f32) (h2 : M2.IsWhole)
    (M3 : Memref sig .tc .vmem S16x256x1 .i32) (h3 : M3.IsWhole) (M4 : Memref sig .tc .smem S1x1 .f32) (h4 : M4.IsWhole)
    (f2 : Buf (Elt F) (M2.view.loc (c : Thread nD τ))) (f3 : Buf (Elt F) (M3.view.loc (c : Thread nD τ))) (f4 : Buf (Elt F) (M4.view.loc (c : Thread nD τ)))
    (X : S256x3200.Idx → F .f32) (G : S16x256x1.Idx → BitVec 32) (a : F .f32)
    (hX : M2.view.read (Elt F) f2 = X) (hG : M3.view.read (Elt F) f3 = G) (ha : M4.view.read (Elt F) f4 = fun _ => a)
    (Q : PUnit → sProp 𝕄) :
    iprop(pts c M2 f2 ∗ pts c M3 f3 ∗ pts c M4 f4
        ∗ (pts c M2 f2 -∗ pts c M3 f3 -∗ (∃ f, ⌜M4.view.read (Elt F) f = fun _ => accNext i X G a⌝ ∗ pts c M4 f) -∗ Q ⟨⟩))
      ⊢ wp frame (wpE (defs₀ (F := F)) 𝒱₀ c none) Set.univ (cc1__tc_body i M2 h2 M3 h3 M4 h4) Q := by
  rw [cc1__tc_body_eq_skeleton]; unfold cc1__tc_body_skel
  rw [k1_part1_eq_skeleton]; unfold k1_part1_skel
  have hM2 : M2.view.readAt (Elt F) (Rect.unit (s := S256x3200) ![0, 0] S256x3200.size inb_S256x3200_S256x3200_0_0).toLoadRect f2 = X :=
    (View.readAt_full M2.view f2 inb_S256x3200_S256x3200_0_0).trans hX
  have hM3 : M3.view.readAt (Elt F) (Rect.unit (s := S16x256x1) (k1_off1 i) S1x256x1.size (k1_off1_inb i)).toLoadRect f3 = tgtBlk (F := F) i G := by
    subst hG; rfl
  have hM4 : M4.view.readAt (Elt F) (Rect.unit (s := S1x1) ![0, 0] S1x1.size inb_S1x1_S1x1_0_0).toLoadRect f4 = fun _ => a :=
    (View.readAt_full M4.view f4 inb_S1x1_S1x1_0_0).trans ha
  iintro ⟨H2, H3, H4, HQ⟩
  by_cases hc1 : (i 0).val = 0 ∧ (i 1).val = 0
  · have e1 := (cond_first i).mpr hc1
    have e2 := (cond_col i).mpr hc1.2
    sl_exec
    sl_step
    iapply HQ $$ H2 H3
    iexists _
    isplitr
    swap
    · iexact H4
    ipureintro
    rw [View.read_writes_full]
    sl_unfold_run_names
    rw [accNext, accCol, accStart, if_pos hc1.2, if_pos hc1]
    rfl
  · have e1 := mt (cond_first i).mp hc1
    by_cases hc2 : (i 1).val = 0
    · have e2 := (cond_col i).mpr hc2
      sl_exec
      sl_step
      iapply HQ $$ H2 H3
      iexists _
      isplitr
      swap
      · iexact H4
      ipureintro
      rw [View.read_writes_full]
      sl_unfold_run_names
      rw [accNext, accCol, accStart, if_pos hc2, if_neg hc1]
      rfl
    · have e2 := mt (cond_col i).mp hc2
      sl_exec
      sl_step
      iapply HQ $$ H2 H3
      iexists _
      isplitr
      swap
      · iexact H4
      ipureintro
      rw [View.read_writes_full]
      sl_unfold_run_names
      rw [accNext, accCol, accStart, if_neg hc2, if_neg hc1]
      rfl

end Cert.Proof.Smooth

end
-- ==== Proof.Region.lean ====
/-
  The TensorCore kernel over its grid: what each of the 80 points leaves in the staging buffers, the body's obligation at
  each, and the whole grid as one step of the TensorCore's program.
-/
module

public import proofs.«01_k».proof.Proof.Point
public import proofs.«01_k».proof.Proof.Gen.KernelIdeal.Points
public import Idealize.ShloMosaic.Lib.Pipeline.FrameBody

@[expose] public section

set_option maxRecDepth 16384

noncomputable section

namespace Cert.Proof.Smooth

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic
open Idealize.ShloMosaic.Pipeline (Dat Cfg Window BodyObligation)

variable {F : FTy → Type} [FloatOps F] [Named F]

local notation "𝕄" => MT nD τ sig (HIx 1) (Elt F) ℕ UU ℕ

abbrev v1Loc (d : Dev nD) : Loc nD τ sig := (SparseCore.T d).loc main_v1
abbrev v2Loc (d : Dev nD) : Loc nD τ sig := (SparseCore.T d).loc main_v2

/-- Nothing runs before the first point's reset that the point can see: its total does not depend on the one before. -/
theorem accNext_first (i : grid1.Coords) (h : (i 0).val = 0 ∧ (i 1).val = 0) (X : S256x3200.Idx → F .f32) (G : S16x256x1.Idx → BitVec 32)
    (a b : F .f32) : accNext i X G a = accNext i X G b := by
  simp only [accNext, accCol, accStart, if_pos h]

theorem idx11 (x y : S1x1.Idx) : x = y := by
  funext a
  fin_cases a <;> exact Subsingleton.elim (α := Fin 1) _ _

theorem coords_zero : ((grid1.coords ⟨0, by decide⟩) 0).val = 0 ∧ ((grid1.coords ⟨0, by decide⟩) 1).val = 0 := by decide

section Data

variable (c : Dev nD) (fx : Buf (Elt F) (xLoc c)) (G : Buf (Elt F) (v1Loc c)) (f2 : Buf (Elt F) (v2Loc c)) (B : ℕ)

/-- The block of `x` that point `t` works on. -/
def xBlk (t : Fin cfg1.N) : S256x3200.Idx → F .f32 := ((cfg1.win 0).blk t).view.read (Elt F) fx

/-- The running total before point `n`. -/
def accAt : ℕ → F .f32
  | 0 => zF
  | n + 1 => if h : n < cfg1.N then accNext (grid1.coords ⟨n, h⟩) (xBlk c fx ⟨n, h⟩) G (accAt n) else accAt n

theorem accAt_succ (t : Fin cfg1.N) : accAt c fx G (t.val + 1) = accNext (grid1.coords t) (xBlk c fx t) G (accAt c fx G t.val) := by
  rw [accAt, dif_pos t.isLt]

/-- What the pipeline proof is about: the arrays as the launch finds them, each staging buffer after each point, and that
    only waits at levels up to `B` are recorded. -/
def dat : Dat τ (Elt F) (HIx 1) ℕ UU ℕ cfg1 c where
  A w := match w with
    | ⟨0, _⟩ => fx
    | ⟨1, _⟩ => G
    | ⟨2, _⟩ => f2
  after w t := match w with
    | ⟨0, _⟩ => xBlk c fx t
    | ⟨1, _⟩ => G
    | ⟨2, _⟩ => fun _ => accAt c fx G (t.val + 1)
  Φ _ := Pipeline.scopedRest (Ix := HIx 1) (Name := ℕ) (U := UU) (Lvl := ℕ) (Val := Elt F) spec1 c
  q _ := fullShare
  owed _ := 0
  recorded _ := {p | (K (F := F)).lev ((SparseCore.T c : Thread nD τ), p.1) p.2 ≤ B}

theorem before_x (t : Fin cfg1.N) (d) : (dat c fx G f2 B).before 0 t d = xBlk c fx t := by
  rw [(dat c fx G f2 B).before_fetched 0 t (fetch1_0 t)]; rfl

theorem read_v1 (t : Fin cfg1.N) : ((cfg1.win 1).blk t).view.read (Elt F) G = G := by
  funext x
  refine congrArg G (funext fun a => Fin.ext ?_)
  fin_cases a <;> exact (Nat.zero_add _).trans (Nat.one_mul _)

theorem before_t (t : Fin cfg1.N) (d) : (dat c fx G f2 B).before 1 t d = G := by
  rw [(dat c fx G f2 B).before_in_eq_fetched 1 rfl (fun _ => rfl) (fun _ _ _ => rfl) (fun t => ?_) t d]
  · exact read_v1 c G t
  · exact (read_v1 c G t).symm

theorem before_acc (t : Fin cfg1.N) (ht : t.val ≠ 0) (d) : (dat c fx G f2 B).before 2 t d = fun _ => accAt c fx G t.val := by
  have h80 : cfg1.N = 80 := N_1
  rw [(dat c fx G f2 B).before_out_kept 2 rfl t ht ?_ (fun _ => rfl) (fun _ _ => rfl) d]
  · dsimp only [dat]
    funext _
    rw [Nat.sub_add_cancel (Nat.pos_of_ne_zero ht)]
  · rw [Bool.eq_false_iff]
    intro h
    have := (flush1_2 _).mp h
    have := t.isLt
    simp only at *
    omega

theorem staged_whole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pts c M f) := by
  unfold owns; rw [h.set_eq_univ]

theorem body_ok : BodyObligation (dat c fx G f2 B) (defs₀ (F := F)) 𝒱₀ (none : HIx 1) Set.univ := fun t => by
  rw [bigSep_W1, bigSep_W1]
  show _ ⊢ wp frame _ _ (bodyAt1 t) _
  have e0 := staged_whole (F := F) c (st1_0 t) (hstage1_0 ((cfg1.slots t 0).cast nbuf1_0))
  have e1 := staged_whole (F := F) c (st1_1 t) (hstage1_1 ((cfg1.slots t 1).cast nbuf1_1))
  have e2 := staged_whole (F := F) c (st1_2 t) (hstage1_2 ((cfg1.slots t 2).cast nbuf1_2))
  simp only [e0, e1, e2]
  rw [show (dat c fx G f2 B).Φ t.castSucc = (dat c fx G f2 B).Φ t.succ from rfl,
    show (dat c fx G f2 B).owesAt (none : HIx 1) t.castSucc = (dat c fx G f2 B).owesAt (none : HIx 1) t.succ from rfl]
  iintro ⟨HΦ, Howes, ⟨%d0, %g0, %h0, H0⟩, ⟨%d1, %g1, %h1, H1⟩, ⟨%d2, %g2, %h2, H2⟩⟩
  rw [before_x] at h0
  rw [before_t] at h1
  obtain ⟨a, ha, hn⟩ : ∃ a : F .f32, (st1_2 t).view.read (Elt F) g2 = (fun _ => a)
      ∧ accNext (grid1.coords t) (xBlk c fx t) G a = accAt c fx G (t.val + 1) := by
    rw [accAt_succ]
    by_cases ht : t.val = 0
    · refine ⟨(st1_2 t).view.read (Elt F) g2 (ix2 0 0), funext fun ix => congrArg _ (idx11 _ _), ?_⟩
      obtain rfl : t = ⟨0, by decide⟩ := Fin.ext ht
      exact accNext_first _ coords_zero _ _ _ _
    · exact ⟨_, h2.trans (before_acc c fx G f2 B t ht d2), rfl⟩
  have hb := body1_wp (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) g0 g1 g2 (xBlk c fx t) G a h0 h1 ha
  rw [hn] at hb
  iapply hb
  isplitl [H0]; · iexact H0
  isplitl [H1]; · iexact H1
  isplitl [H2]; · iexact H2
  iintro H0 H1 H2
  isplitl [HΦ]; · iexact HΦ
  isplitl [Howes]; · iexact Howes
  dsimp only [dat]
  isplitl [H0]
  · iexists g0
    isplitr
    · ipureintro; exact h0
    · iexact H0
  isplitl [H1]
  · iexists g1
    isplitr
    · ipureintro; exact h1
    · iexact H1
  iexact H2

end Data

/-! ## The whole grid as one step -/

section Grid

variable (fx : (c : Dev nD) → Buf (Elt F) (xLoc c)) (G : (c : Dev nD) → Buf (Elt F) (v1Loc c)) (f2 : (c : Dev nD) → Buf (Elt F) (v2Loc c)) (B : ℕ)

abbrev adm : (p : Fin 1) → (pcfgs (F := F) p).Adm := fun p => (cfgs p).toPCfg_adm

abbrev pdats : (p : Fin 1) → (c : Dev nD) → Dat τ (Elt F) (HIx 1) ℕ UU ℕ (Pipeline.pin (pcfgs (F := F)) adm p) c
  | ⟨0, _⟩ => fun c => dat c (fx c) (G c) (f2 c) B

/-- The result array after the grid holds the total after the last point. -/
theorem arrAt_total (c : Dev nD) : (dat c (fx c) (G c) (f2 c) B).arrAt 2 cfg1.N = fun _ => accAt c (fx c) (G c) 80 := by
  have h79 : 79 < cfg1.N := by rw [show cfg1.N = 80 from N_1]; decide
  rw [show cfg1.N = 79 + 1 from N_1]
  unfold Dat.arrAt
  rw [dif_pos h79, if_pos ((flush1_2 ⟨79, h79⟩).mpr rfl)]
  funext ix
  obtain rfl : ix = ((cfg1.win 2).blk ⟨79, h79⟩).view.emb (ix2 0 0) := idx11 _ _
  rw [View.write_emb_of_mem _ _ (Finset.mem_univ _)]
  rfl

/-- What is held of the two input arrays and of the result array, and that the core owes nothing and has waited at levels
    up to `B` only. -/
abbrev gridAt (c : Dev nD) (g : Buf (Elt F) (v2Loc c)) : sProp 𝕄 :=
  iprop((xLoc c ↦{fullShare} fx c) ∗ (v1Loc c ↦{fullShare} G c) ∗ (v2Loc c ↦{fullShare} g)
    ∗ ∃ W, ⌜(K (F := F)).WBelow (SparseCore.T c : Thread nD τ) W B⌝ ∗ owes (SparseCore.T c : Thread nD τ) (0 : CellTallies nD τ sig (HIx 1)) W)

theorem arrays_chain (c : Dev nD) (A : (w : Fin 3) → Buf (Elt F) (((cfg1.win w).arr.view.loc (c : Thread nD τ)))) :
    ((pdats fx G f2 B 0 c).arrays A : sProp 𝕄)
      = iprop((xLoc c ↦{fullShare} A 0) ∗ (v1Loc c ↦{fullShare} A 1) ∗ (v2Loc c ↦{fullShare} A 2)) := by
  have h := Pipeline.arrays_eq (Pipeline.pin (pcfgs (F := F)) adm) (pdats fx G f2 B) 0 c arr_whole1 ((pdats fx G f2 B 0 c).share_full fun _ => rfl) A
  rw [h]
  exact bigSep_W1 _

set_option backward.isDefEq.respectTransparency.types false in
/-- The grid as a step: from the arrays as the launch leaves them to the result array at the total of all points. -/
def gridSeg : Pipeline.RegionSeg (pcfgs (F := F)) adm (pdats fx G f2 B) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_ok c (fx c) (G c) (f2 c) B).loose
  hwaits := Pipeline.hwaits_of_owed_zero _ _ _ _ _ _ 0 fun _ _ => rfl
  pre c := gridAt fx G B c (f2 c)
  post c := gridAt fx G B c (fun _ => accAt c (fx c) (G c) 80)
  X _ := BI.emp
  Y _ := BI.emp
  Z _ := BI.emp
  hentry c := by
    rw [Pipeline.ownSems0_none, arrays_chain]
    iintro ⟨⟨Hx, Ht, Hr, %W, %hW, HO⟩, -, -⟩
    imodintro
    isplitl [Hx Ht Hr]
    · isplitl [Hx]; · iexact Hx
      isplitl [Ht]; · iexact Ht
      iexact Hr
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr
      · ipureintro; exact fun p hp => Or.inl (hW p hp)
      · iexact HO
    isplitr <;> iempintro
  hin c := by
    rw [show (pdats fx G f2 B 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats fx G f2 B 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_chain]
    have e2 : (pdats fx G f2 B 0 c).arrAt 2 (Pipeline.pin (pcfgs (F := F)) adm 0).N = fun _ => accAt c (fx c) (G c) 80 := arrAt_total fx G f2 B c
    rw [e2, (pdats fx G f2 B 0 c).arrAt_in 0 rfl, (pdats fx G f2 B 0 c).arrAt_in 1 rfl]
    iintro ⟨⟨Hx, Ht, Hr⟩, HO, -, -⟩
    imodintro
    isplitl [Hx]; · iexact Hx
    isplitl [Ht]; · iexact Ht
    isplitl [Hr]; · iexact Hr
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    · iexact HO

/-- The grid's ghost state on a core, dealt once at the launch. -/
abbrev Ghost (c : Dev nD) : sProp 𝕄 :=
  iprop(Pipeline.cellsGhost (Pipeline.pin (pcfgs (F := F)) adm) EP 0 c ∗ Pipeline.toksInit (Pipeline.pin (pcfgs (F := F)) adm) EP 0 c)

/-- The grid's call in the TensorCore's program. -/
theorem grid_wp [∀ e, Nonempty (Elt F e)] (c : Dev nD) (Q : PUnit → sProp 𝕄) :
    iprop(boundary (SparseCore.T c : Thread nD τ) ∗ gridAt fx G B c (f2 c) ∗ levAts (K (F := F)).L (K (F := F)).lev ∗ Ghost c
        ∗ (boundary (SparseCore.T c : Thread nD τ) ∗ gridAt fx G B c (fun _ => accAt c (fx c) (G c) 80) -∗ Q ⟨⟩))
      ⊢ wp frame (wpE ((K (F := F)).defs D) 𝒱 (SparseCore.T c : Thread nD τ) none) Set.univ
          (Prog.lift (.customCall (SparseCore.inner (Pipeline.entry 0)) ())) Q := by
  have h := Pipeline.RegionSeg.wp (pcfgs (F := F)) adm (pdats fx G f2 B) (none : HIx 1) cellOf_inj EP defs₀ 𝒱₀ (K (F := F)).L (K (F := F)).lev
    (gridSeg fx G f2 B) c none (fun u hu => nomatch hu) (fun _ => .ret ⟨⟩) Q
  rw [show (gridSeg fx G f2 B).pre c = gridAt fx G B c (f2 c) from rfl,
    show (gridSeg fx G f2 B).post c = gridAt fx G B c (fun _ => accAt c (fx c) (G c) 80) from rfl] at h
  have h' := h.trans ((K (F := F)).wp_liftProg D 𝒱 (SparseCore.T c : Thread nD τ) Set.univ none _ Q)
  refine BIBase.Entails.trans ?_ h'
  iintro ⟨Hb, Hpre, Hlev, ⟨Hg, Ht⟩, HQ⟩
  isplitl [HQ]
  · iintro H
    rw [wp_ret]
    imodintro
    iapply HQ
    iexact H
  isplitl [Hb]; · iexact Hb
  isplitl [Hpre]; · iexact Hpre
  isplitl [Hlev]; · iexact Hlev
  isplitl [Hg]; · iexact Hg
  iexact Ht

end Grid

end Cert.Proof.Smooth

end
-- ==== Proof.Main.lean ====
/-
  The whole program: `@main` on the TensorCore, the launch, and what a run leaves in the result and in the arguments.
-/
module

public import proofs.«01_k».proof.Proof.Deal
public import proofs.«01_k».proof.Proof.Region

@[expose] public section

set_option maxRecDepth 16384

noncomputable section

namespace Cert.Proof.Smooth

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic
open Idealize.ShloMosaic.StableHlo

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The arrays of the TensorCore -/

abbrev x' : DevRef τ sig := Proc.devRef .tc (main_arg0 : Ref sig .tc)
abbrev t' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev cst' : DevRef τ sig := Proc.devRef .tc (main_cst : Ref sig .tc)
abbrev v4' : DevRef τ sig := Proc.devRef .tc (main_v4 : Ref sig .tc)
abbrev v5' : DevRef τ sig := Proc.devRef .tc (main_v5 : Ref sig .tc)

abbrev opTgt : HloOp τ sig (Elt F) := StableHlo.reshape main_arg1 main_v1 (rfl : (.i32 : EltTy) = .i32) shapeCasts_S4096_S16x256x1
abbrev opTot : HloOp τ sig (Elt F) := StableHlo.reshape main_v2 main_v3 (rfl : (.f32 : EltTy) = .f32) shapeCasts_S1x1_S_
abbrev opCst : HloOp τ sig (Elt F) := StableHlo.nullary main_cst (constant S_ .f32 0x00000000#32)
abbrev opSum : HloOp τ sig (Elt F) := StableHlo.binary main_v0 main_cst main_v4
  ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opAdd : HloOp τ sig (Elt F) := StableHlo.binary main_v3 main_v4 main_v5
  (addf : (⟨S_, .f32⟩ : BufTy).Contents (Elt F) → (⟨S_, .f32⟩ : BufTy).Contents (Elt F) → (⟨S_, .f32⟩ : BufTy).Contents (Elt F))

abbrev S9 : Finset (DevRef τ sig) := {x', t', v0', v1', v2', v3', cst', v4', v5'}

abbrev whole (d : Dev nD) (b : DevRef τ sig) (f : b.ty.Contents (Elt F)) : sProp 𝕄 := (((d, b) : Loc nD τ sig) ↦{fullShare} f)

theorem held_S9 (d : Dev nD) (W : Valuation τ sig (Elt F)) :
    (held (SparseCore.T d) S9 W : sProp 𝕄)
      = iprop(whole d x' (W x') ∗ whole d t' (W t') ∗ whole d v0' (W v0') ∗ whole d v1' (W v1') ∗ whole d v2' (W v2')
          ∗ whole d v3' (W v3') ∗ whole d cst' (W cst') ∗ whole d v4' (W v4') ∗ whole d v5' (W v5')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays at the launch, after the SparseCore call, after the targets' reshape, after the grid, and at the end. -/
def V0 (d : Dev nD) : Valuation τ sig (Elt F) := fun b => m (d, b)
def V1 (d : Dev nD) : Valuation τ sig (Elt F) := Function.update (V0 m d) v0' (pOut m d)
def V2 (d : Dev nD) : Valuation τ sig (Elt F) := (opTgt (F := F)).result (V1 m d)
/-- The targets as the TensorCore kernel reads them. -/
abbrev tgts (d : Dev nD) : Buf (Elt F) (v1Loc d) := V2 m d v1'
/-- The total of the grid. -/
abbrev total (d : Dev nD) : F .f32 := accAt d (m (xLoc d)) (tgts m d) 80
def V3 (d : Dev nD) : Valuation τ sig (Elt F) := Function.update (V2 m d) v2' (fun _ => total m d)
def V7 (d : Dev nD) : Valuation τ sig (Elt F) := (opAdd (F := F)).result ((opSum (F := F)).result ((opCst (F := F)).result ((opTot (F := F)).result (V3 m d))))

theorem unscoped_held (d : Dev nD) : (unscopedBufs d (fun b => m ((SparseCore.T d).loc b)) : sProp 𝕄) = held (SparseCore.T d) S9 (V0 m d) := by
  rw [held_S9]
  unfold unscopedBufs
  rw [show (Finset.univ.filter fun b : Ref sig .tc => ¬ b.isScoped)
      = {main_arg0, main_arg1, main_v0, main_v1, main_v2, main_v3, main_cst, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem V1_ne (d : Dev nD) {b : DevRef τ sig} (h : b ≠ v0') : V1 m d b = m (d, b) := Function.update_of_ne h _ _
theorem V1_v0 (d : Dev nD) : V1 m d v0' = pOut m d := Function.update_self _ _ _
theorem V2_ne (d : Dev nD) {b : DevRef τ sig} (h : b ∉ ({v1'} : Finset (DevRef τ sig))) : V2 m d b = V1 m d b :=
  (opTgt (F := F)).result_of_not_mem _ h
theorem V3_ne (d : Dev nD) {b : DevRef τ sig} (h : b ≠ v2') : V3 m d b = V2 m d b := Function.update_of_ne h _ _
theorem V3_v2 (d : Dev nD) : V3 m d v2' = fun _ => total m d := Function.update_self _ _ _
theorem V2_x (d : Dev nD) : V2 m d x' = m (xLoc d) := (V2_ne m d (by decide)).trans (V1_ne m d (by decide))
theorem V2_t (d : Dev nD) : V2 m d t' = m (tLoc d) := (V2_ne m d (by decide)).trans (V1_ne m d (by decide))
theorem V2_v2 (d : Dev nD) : V2 m d v2' = m (v2Loc d) := (V2_ne m d (by decide)).trans (V1_ne m d (by decide))
theorem V7_ne (d : Dev nD) {b : DevRef τ sig} (h3 : b ∉ ({v3'} : Finset (DevRef τ sig))) (hc : b ∉ ({cst'} : Finset (DevRef τ sig)))
    (h4 : b ∉ ({v4'} : Finset (DevRef τ sig))) (h5 : b ∉ ({v5'} : Finset (DevRef τ sig))) : V7 m d b = V3 m d b := by
  unfold V7
  rw [(opAdd (F := F)).result_of_not_mem _ h5, (opSum (F := F)).result_of_not_mem _ h4, (opCst (F := F)).result_of_not_mem _ hc,
    (opTot (F := F)).result_of_not_mem _ h3]
theorem V7_x (d : Dev nD) : V7 m d x' = m (xLoc d) :=
  (V7_ne m d (by decide) (by decide) (by decide) (by decide)).trans ((V3_ne m d (by decide)).trans (V2_x m d))
theorem V7_t (d : Dev nD) : V7 m d t' = m (tLoc d) :=
  (V7_ne m d (by decide) (by decide) (by decide) (by decide)).trans ((V3_ne m d (by decide)).trans (V2_t m d))

/-- The program's result. -/
def Rv (d : Dev nD) : Buf (Elt F) ((d, v5') : Loc nD τ sig) := V7 m d v5'

/-- The targets reshaped, place by place. -/
theorem tgts_eq (d : Dev nD) : tgts m d = shapeCast S16x256x1 (m (tLoc d) : S4096.Idx → BitVec 32) shapeCasts_S4096_S16x256x1 := by
  show V2 m d v1' = _
  unfold V2
  rw [StableHlo.reshape_result, V1_ne m d (by decide)]
  rfl

/-- The result is the grid's total and the sum of the partial sums. -/
theorem Rv_eq (d : Dev nD) : Rv m d = addf (shapeCast S_ (fun _ => total m d : S1x1.Idx → F .f32) shapeCasts_S1x1_S_)
    (Host.reduceAdd (pOut m d : S32x16.Idx → F .f32) (constant S_ .f32 0x00000000#32) reducesTo_S32x16_S_d0_1 h_S_) := by
  unfold Rv V7
  rw [StableHlo.binary_result, StableHlo.binary_result, (opSum (F := F)).result_of_not_mem _ (show v3' ∉ ({v4'} : Finset (DevRef τ sig)) by decide),
    (opCst (F := F)).result_of_not_mem _ (show v3' ∉ ({cst'} : Finset (DevRef τ sig)) by decide), StableHlo.reshape_result, StableHlo.nullary_result,
    (opCst (F := F)).result_of_not_mem _ (show v0' ∉ ({cst'} : Finset (DevRef τ sig)) by decide),
    (opTot (F := F)).result_of_not_mem _ (show v0' ∉ ({v3'} : Finset (DevRef τ sig)) by decide), V3_v2, V3_ne m d (by decide), V2_ne m d (by decide), V1_v0]
  rfl

/-! ## `@main` -/

theorem cores_eq (d : Dev nD) (f : Buf (Elt F) (pLoc d)) :
    (bigSep Finset.univ fun c : Fin ((K (F := F)).nCore 0) => core m d (Fin.cast (nCore_zero (F := F)) c) f)
      = bigSep Finset.univ fun c : Fin 2 => core m d c f :=
  bigSep_congr fun _ _ => congrArg (fun c => core m d c f) (Fin.ext rfl)

theorem st0_eq (d : Dev nD) : (bigSep Finset.univ fun c : Fin ((K (F := F)).nCore 0) => (P m).st 0 d c)
    = bigSep Finset.univ fun c : Fin 2 => core m d c (m (pLoc d)) := cores_eq m d _
theorem dn0_eq (d : Dev nD) : (bigSep Finset.univ fun c : Fin ((K (F := F)).nCore 0) => (P m).dn 0 d c)
    = bigSep Finset.univ fun c : Fin 2 => core m d c (pOut m d) := cores_eq m d _

theorem hTgt : (opTgt (F := F)).bufs ⊆ S9 := show ({t', v1'} : Finset (DevRef τ sig)) ⊆ S9 by decide
theorem hTot : (opTot (F := F)).bufs ⊆ S9 := show ({v2', v3'} : Finset (DevRef τ sig)) ⊆ S9 by decide
theorem hCst : (opCst (F := F)).bufs ⊆ S9 := show ({cst'} : Finset (DevRef τ sig)) ⊆ S9 by decide
theorem hSum : (opSum (F := F)).bufs ⊆ S9 := show ({v0', cst', v4'} : Finset (DevRef τ sig)) ⊆ S9 by decide
theorem hAdd : (opAdd (F := F)).bufs ⊆ S9 := show ({v3', v4', v5'} : Finset (DevRef τ sig)) ⊆ S9 by decide

/-- What `@main` leaves the claims: the arguments at their launch contents, the result at its value. -/
abbrev FIN (d : Dev nD) : sProp 𝕄 := iprop(whole d x' (m (xLoc d)) ∗ whole d t' (m (tLoc d)) ∗ whole d v5' (Rv m d))

theorem held_V7 (d : Dev nD) : (held (SparseCore.T d) S9 (V7 m d) : sProp 𝕄) ⊢ FIN m d := by
  rw [held_S9, V7_x, V7_t]
  iintro ⟨Hx, Ht, -, -, -, -, -, -, Hr⟩
  isplitl [Hx]; · iexact Hx
  isplitl [Ht]; · iexact Ht
  iexact Hr

/-- What the TensorCore owes after the one SparseCore call is nothing; the rest of its launch state is kept apart. -/
theorem tcSt_split (d : Dev nD) : ∃ (B : ℕ) (R : sProp 𝕄), (K (F := F)).tcSt EH d 1
    = iprop((∃ W, ⌜(K (F := F)).WBelow (SparseCore.T d) W B⌝ ∗ owes (SparseCore.T d) 0 W) ∗ R) :=
  ⟨_, _, by unfold SparseCore.Cfg.tcSt; rw [(K (F := F)).Otc_end d (le_refl 1)]⟩

/-- The arrays before the SparseCore call are the two inputs, the partial sums and the rest. -/
theorem held_V0 (d : Dev nD) : (held (SparseCore.T d) S9 (V0 m d) : sProp 𝕄)
    = iprop((xLoc d ↦{fullShare} m (xLoc d)) ∗ (tLoc d ↦{fullShare} m (tLoc d)) ∗ (pLoc d ↦{fullShare} m (pLoc d))
      ∗ whole d v1' (V0 m d v1') ∗ whole d v2' (V0 m d v2') ∗ whole d v3' (V0 m d v3') ∗ whole d cst' (V0 m d cst')
      ∗ whole d v4' (V0 m d v4') ∗ whole d v5' (V0 m d v5')) := by
  rw [held_S9]; rfl
theorem held_V1 (d : Dev nD) : (held (SparseCore.T d) S9 (V1 m d) : sProp 𝕄)
    = iprop((xLoc d ↦{fullShare} m (xLoc d)) ∗ (tLoc d ↦{fullShare} m (tLoc d)) ∗ (pLoc d ↦{fullShare} pOut m d)
      ∗ whole d v1' (V0 m d v1') ∗ whole d v2' (V0 m d v2') ∗ whole d v3' (V0 m d v3') ∗ whole d cst' (V0 m d cst')
      ∗ whole d v4' (V0 m d v4') ∗ whole d v5' (V0 m d v5')) := by
  rw [held_S9, V1_v0, V1_ne m d (show x' ≠ v0' by decide), V1_ne m d (show t' ≠ v0' by decide), V1_ne m d (show v1' ≠ v0' by decide),
    V1_ne m d (show v2' ≠ v0' by decide), V1_ne m d (show v3' ≠ v0' by decide), V1_ne m d (show cst' ≠ v0' by decide),
    V1_ne m d (show v4' ≠ v0' by decide), V1_ne m d (show v5' ≠ v0' by decide)]
  rfl
/-- The arrays before the grid, and after it, are the grid's three and the rest. -/
theorem held_V2 (d : Dev nD) : (held (SparseCore.T d) S9 ((opTgt (F := F)).result (V1 m d)) : sProp 𝕄)
    = iprop((xLoc d ↦{fullShare} m (xLoc d)) ∗ whole d t' (V2 m d t') ∗ whole d v0' (V2 m d v0') ∗ (v1Loc d ↦{fullShare} tgts m d)
      ∗ (v2Loc d ↦{fullShare} m (v2Loc d)) ∗ whole d v3' (V2 m d v3') ∗ whole d cst' (V2 m d cst')
      ∗ whole d v4' (V2 m d v4') ∗ whole d v5' (V2 m d v5')) := by
  show (held (SparseCore.T d) S9 (V2 m d) : sProp 𝕄) = _
  rw [held_S9, V2_x, V2_v2]
theorem held_V3 (d : Dev nD) : (held (SparseCore.T d) S9 (V3 m d) : sProp 𝕄)
    = iprop((xLoc d ↦{fullShare} m (xLoc d)) ∗ whole d t' (V2 m d t') ∗ whole d v0' (V2 m d v0') ∗ (v1Loc d ↦{fullShare} tgts m d)
      ∗ (v2Loc d ↦{fullShare} fun _ => total m d) ∗ whole d v3' (V2 m d v3') ∗ whole d cst' (V2 m d cst')
      ∗ whole d v4' (V2 m d v4') ∗ whole d v5' (V2 m d v5')) := by
  rw [held_S9, V3_v2, V3_ne m d (show x' ≠ v2' by decide), V3_ne m d (show t' ≠ v2' by decide), V3_ne m d (show v0' ≠ v2' by decide),
    V3_ne m d (show v1' ≠ v2' by decide), V3_ne m d (show v3' ≠ v2' by decide), V3_ne m d (show cst' ≠ v2' by decide),
    V3_ne m d (show v4' ≠ v2' by decide), V3_ne m d (show v5' ≠ v2' by decide), V2_x]

/-- `@main` on device `d`: the SparseCore call, the targets' reshape, the grid, and the four operations that end it. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨B, R, hR⟩ := tcSt_split (F := F) d
  have hR' : (K (F := F)).tcSt EH d ((0 : Fin 1).val + 1) = _ := hR
  unfold SparseCore.Cfg.tcRes SparseCore.Cfg.tcEnd
  rw [unscoped_held, held_V0]
  simp only [main, wp_bind, wp_pure]
  iintro ⟨#Hctx, Hst, ⟨Hb, ⟨Hx, Ht, Hp, H1, H2, H3, Hc, H4, H5⟩, Hts, -⟩, Hg⟩
  ihave Hd := (deal_eq m d (m (pLoc d))).1 $$ [Hx Ht Hp]
  · isplitl [Hx]; · iexact Hx
    isplitl [Ht]; · iexact Ht
    iexact Hp
  icases Hd with ⟨Dx, Dt, HP⟩
  iapply ((K (F := F)).wp_run (D (F := F)) 𝒱 (EH := EH) (P := P m) κ d 0) $$ [Hst Dx Dt HP Hb H1 H2 H3 Hc H4 H5 Hts Hg]
  isplitr; · iexact Hctx
  isplitl [Hst]; · iexact Hst
  isplitl [HP]
  · rw [st0_eq]; iexact HP
  iintro ⟨Hst, Hdn⟩
  ihave HP := (BIBase.Entails.of_eq (dn0_eq m d)) $$ Hdn
  ihave Hd := (deal_eq m d (pOut m d)).2 $$ [Dx Dt HP]
  · isplitl [Dx]; · iexact Dx
    isplitl [Dt]; · iexact Dt
    iexact HP
  icases Hd with ⟨Hx, Ht, Hp⟩
  iapply (wp_hlo_within 𝒱 (SparseCore.T d) none Set.univ (op := opTgt) (S := S9) hTgt (V := V1 m d)) $$ [Hb Hx Ht Hp H1 H2 H3 Hc H4 H5]
  · isplitl [Hb]; · iexact Hb
    rw [held_V1]
    isplitl [Hx]; · iexact Hx
    isplitl [Ht]; · iexact Ht
    isplitl [Hp]; · iexact Hp
    isplitl [H1]; · iexact H1
    isplitl [H2]; · iexact H2
    isplitl [H3]; · iexact H3
    isplitl [Hc]; · iexact Hc
    isplitl [H4] <;> iassumption
  iintro ⟨Hb, Hheld⟩
  rw [wp_ret]; imodintro
  ihave Hh := (BIBase.Entails.of_eq (held_V2 (F := F) m d)) $$ Hheld
  icases Hh with ⟨Hx, Ht, Hp, H1, H2, H3, Hc, H4, H5⟩
  ihave Hst' := (BIBase.Entails.of_eq hR') $$ Hst
  icases Hst' with ⟨Ho, HR⟩
  iapply (grid_wp (fun d => m (xLoc d)) (fun d => tgts m d) (fun d => m (v2Loc d)) B d) $$ [Hb Hx H1 H2 Ho Hg Ht Hp H3 Hc H4 H5 HR Hts]
  isplitl [Hb]; · iexact Hb
  isplitl [Hx H1 H2 Ho]
  · isplitl [Hx]; · iexact Hx
    isplitl [H1]; · iexact H1
    isplitl [H2]; · iexact H2
    iexact Ho
  isplitr
  · iapply ((K (F := F)).ctx_levAts κ); iexact Hctx
  isplitl [Hg]; · iexact Hg
  iintro ⟨Hb, Hx, H1, H2, Ho⟩
  iapply (wp_hlo_within 𝒱 (SparseCore.T d) none Set.univ (op := opTot) (S := S9) hTot (V := V3 m d)) $$ [Hb Hx Ht Hp H1 H2 H3 Hc H4 H5]
  · isplitl [Hb]; · iexact Hb
    rw [held_V3]
    isplitl [Hx]; · iexact Hx
    isplitl [Ht]; · iexact Ht
    isplitl [Hp]; · iexact Hp
    isplitl [H1]; · iexact H1
    isplitl [H2]; · iexact H2
    isplitl [H3]; · iexact H3
    isplitl [Hc]; · iexact Hc
    isplitl [H4] <;> iassumption
  iintro ⟨Hb, Hheld⟩
  rw [wp_ret]; imodintro
  iapply (wp_hlo_within 𝒱 (SparseCore.T d) none Set.univ (op := opCst) (S := S9) hCst (V := (opTot (F := F)).result (V3 m d))) $$ [Hb Hheld]
  · isplitl [Hb] <;> iassumption
  iintro ⟨Hb, Hheld⟩
  rw [wp_ret]; imodintro
  iapply (wp_hlo_within 𝒱 (SparseCore.T d) none Set.univ (op := opSum) (S := S9) hSum
    (V := (opCst (F := F)).result ((opTot (F := F)).result (V3 m d)))) $$ [Hb Hheld]
  · isplitl [Hb] <;> iassumption
  iintro ⟨Hb, Hheld⟩
  rw [wp_ret]; imodintro
  iapply (wp_hlo_within 𝒱 (SparseCore.T d) none Set.univ (op := opAdd) (S := S9) hAdd
    (V := (opSum (F := F)).result ((opCst (F := F)).result ((opTot (F := F)).result (V3 m d))))) $$ [Hb Hheld]
  · isplitl [Hb] <;> iassumption
  iintro ⟨Hb, Hheld⟩
  rw [wp_ret]; imodintro; imodintro
  isplitl [Ho HR]
  · rw [hR]
    isplitl [Ho]; · iexact Ho
    iexact HR
  isplitl [Hheld]
  · iapply (held_V7 m d); iexact Hheld
  isplitl [Hb] <;> iassumption

/-! ## The launch -/

/-- The launch's ghost element: the handshakes' rounds and the staging cells' rounds. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Ghost (F := F) d)
        ∗ bigSep Finset.univ fun thr : Thread nD τ => bigSep Finset.univ fun q : Fin 1 => (P m).x q thr) := by
  have hg := Pipeline.fund_ghost (Pipeline.pin (pcfgs (F := F)) adm) (EP : Emb UP 𝕄) (nD := nD) cellOf_inj
  have e1 : ∀ Φ : Dev nD → Fin 1 → sProp 𝕄, (bigSep Finset.univ fun c => bigSep Finset.univ fun p => Φ c p) = bigSep Finset.univ fun c => Φ c 0 :=
    fun Φ => bigSep_congr fun c _ => bigSep_univ_of_subsingleton (0 : Fin 1)
  rw [e1, e1] at hg
  have ex : (bigSep Finset.univ fun thr : Thread nD τ => bigSep Finset.univ fun q : Fin 1 => ((P m).x q thr : sProp 𝕄)) = iprop(emp) := by
    show (bigSep Finset.univ fun _ : Thread nD τ => bigSep Finset.univ fun _ : Fin 1 => (iprop(emp) : sProp 𝕄)) = iprop(emp)
    rw [bigSep_congr fun _ _ => bigSep_emp' _, bigSep_emp']
  have ep := own_pair_emb (embR : Emb (UP × Counters) 𝕄)
    (initOf (Pipeline.cells (Pipeline.pin (pcfgs (F := F)) adm) cellOf_inj) (Pipeline.launchToks (Pipeline.pin (pcfgs (F := F)) adm) cellOf_inj)) 1
  rw [show (Emb.inl.trans (embR : Emb (UP × Counters) 𝕄) : Emb UP 𝕄) = EP from rfl] at ep
  rw [ex, bigSep_sep']
  unfold u₀
  iintro Hu
  ihave H := (ownU_pair _ _) $$ Hu
  icases H with ⟨HH, HR⟩
  ihave H := ep $$ HR
  icases H with ⟨HE, -⟩
  imod hg $$ HE with ⟨Hc, Ht⟩
  imodintro
  isplitl [HH]; · iexact HH
  isplitl [Hc Ht]
  · isplitl [Hc]; · iexact Hc
    iexact Ht
  iempintro

/-- What the claims read of device `d`'s final state. -/
def fq (d : Dev nD) (s' : Phys nD τ sig (Elt F)) : Prop :=
  s'.mem.mem ((SparseCore.T d).loc main_v5) = Rv m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := (SparseCore.T d).loc main_v5) (I := Finset.univ) (q := fullShare) (f := Rv m d)) $$ [HSI Hr]
  · isplitl [HSI] <;> iassumption
  icases H with %hr
  ipureintro
  exact ⟨funext fun i => hr i (Finset.mem_univ i), funext fun i => hx i (Finset.mem_univ i), funext fun i => ht i (Finset.mem_univ i)⟩

/-- What a run leaves. -/
def QC : PUnit × MemSt nD τ sig (Elt F) → Prop := fun r =>
  (∀ c : Dev nD, r.2.mem ((SparseCore.T c).loc main_v5) = Rv m c ∧ r.2.mem (xLoc c) = m (xLoc c) ∧ r.2.mem (tLoc c) = m (tLoc c)) ∧ r.2.sem = fun _ => 0

/-- Every run of the program from targets in range ends, with the result at its value and the arguments unchanged. -/
theorem run_main [∀ e, Nonempty (Elt F e)] (hm : Tgts m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm facts)
    (fun q _ => match q with | 0 => SparseCore.Cfg.VecSplit.of_plain (vecSplit m))
    m ρ main (fun d => Ghost (F := F) d) (FIN m) (u₀ (F := F)) (sep_elim_left.trans (hu₀ m)) (hmain m ρ) (fq m) (hfin m) (QC m) (fun _ h hz => ⟨h, hz⟩)

end Cert.Proof.Smooth

end
-- ==== Proof.Frames.lean ====
/-
  The frames: what the precondition says of the arguments, and each program's run with the values dropped.
-/
module

public import proofs.«01_k».proof.Defs
public import proofs.«01_k».proof.Proof.Main
public import proofs.«01_k».proof.Proof.Gen.Kernel
public import proofs.«01_k».proof.Proof.Gen.Pre_in_range
public import proofs.«01_k».proof.Proof.Gen.Pre_finite_in_range
public import proofs.«01_k».proof.Proof.Gen.ReferenceIdeal.Run
public import Idealize.ShloMosaic.Lib.ReduceAll

@[expose] public section

set_option maxRecDepth 16384

noncomputable section

namespace Cert.Proof.Smooth

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Tactic
open Idealize.ShloMosaic.StableHlo

variable {F : FTy → Type} [FloatOps F]

instance : Subsingleton Cert.Pre_in_range.S_.Idx := ⟨fun a b => funext fun k => k.elim0⟩

instance : Subsingleton Cert.Pre_finite_in_range.S_.Idx := ⟨fun a b => funext fun k => k.elim0⟩

/-- The precondition of the frames says that every target is between 0 and 31999. -/
theorem of_in_range (X : FVec F Cert.Pre_in_range.S4096x32000 .f32) (t : IVec Cert.Pre_in_range.S4096 32)
    (e : Cert.Pre_in_range.fn (F := F) X t = fun _ => 1#1) (k : Cert.Pre_in_range.S4096.Idx) : (0#32).sle (t k) ∧ (t k).slt 32000#32 := by
  have e := congrFun e (fun k => k.elim0)
  obtain ⟨h3, h4⟩ := IntOp.andi_eq_one.mp (Host.reduce_andi_all _ _ _ _ _ e k)
  have h3 := IntOp.cmpi_sge.1 h3
  have h4 := IntOp.cmpi_slt.1 h4
  exact ⟨by rw [BitVec.sle_eq_decide]; exact decide_eq_true h3, by rw [BitVec.slt_eq_decide]; exact decide_eq_true h4⟩

/-- The precondition of the equation says that every target is between 0 and 31999, and that every entry's absolute value is
    below the infinity. -/
theorem of_finite_in_range (X : FVec F Cert.Pre_finite_in_range.S4096x32000 .f32) (t : IVec Cert.Pre_finite_in_range.S4096 32)
    (e : Cert.Pre_finite_in_range.fn (F := F) X t = fun _ => 1#1) :
    (∀ k, (0#32).sle (t k) ∧ (t k).slt 32000#32)
      ∧ ∀ ix, cmpf .olt (Host.absf X) (broadcastInDim Cert.Pre_finite_in_range.S4096x32000 ![] Cert.Pre_finite_in_range.Facts.bcast_S_S4096x32000
          (constant Cert.Pre_finite_in_range.S_ .f32 0x7F800000#32)) ix = 1#1 := by
  have e := congrFun e (fun k => k.elim0)
  obtain ⟨h1, h2⟩ := IntOp.andi_eq_one.mp e
  refine ⟨fun k => ?_, fun ix => Host.reduce_andi_all _ _ _ _ _ h2 ix⟩
  obtain ⟨h3, h4⟩ := IntOp.andi_eq_one.mp (Host.reduce_andi_all _ _ _ _ _ h1 k)
  have h3 := IntOp.cmpi_sge.1 h3
  have h4 := IntOp.cmpi_slt.1 h4
  exact ⟨by rw [BitVec.sle_eq_decide]; exact decide_eq_true h3, by rw [BitVec.slt_eq_decide]; exact decide_eq_true h4⟩

/-- The named constants of the program over the machine's floats are the words themselves. -/
local instance namedBits : Named Bits where
  named _ _ _ b := Scalar.ofBits _ b

set_option maxHeartbeats 4000000 in
/-- Over the machine's floats the two programs' kernels are the same. -/
theorem defs₀_bits : (Cert.Kernel.defs₀ (F := Bits)) = (Cert.KernelIdeal.defs₀ (F := Bits)) := by
  funext p ℓ a
  match p, ℓ, a with
  | .tc, 0, _ => rfl
  | .tc, 1, _ => rfl
  | .scScalar _, 0, _ => rfl
  | .scScalar _, 1, _ => rfl
  | .scVector _ _, 0, _ => rfl
  | .scVector _ _, 1, _ => rfl

theorem defs_bits : (Cert.Kernel.defs (F := Bits)) = (Cert.KernelIdeal.defs (F := Bits)) :=
  congrArg (fun b => (Cert.Kernel.sc (F := Bits)).defs (Pipeline.defs Cert.Kernel.pcfgs b)) defs₀_bits

/-- The kernel over the machine's floats ends, its arguments unchanged and its semaphore counters at zero: it is the
    program of `run_main` with the named constants read as their words. -/
theorem frame_kernel : Cert.quiescent_Kernel := fun m ρ hp => by
  have h := run_main (F := Bits) m ρ fun d k => of_in_range _ _ (hp d) k
  rw [← defs_bits] at h
  exact (θ_run (Cert.Kernel.defs (F := Bits)) (Cert.Kernel.threads (F := Bits)) _).mono (fun _ h => ⟨fun c => (h.1 c).2, h.2⟩) h

/-- The ideal program ends, its arguments unchanged and its semaphore counters at zero. -/
theorem frame_ideal : Cert.quiescent_KernelIdeal := fun m ρ hp =>
  (θ_run (Cert.KernelIdeal.defs (F := Ideal)) _ _).mono (fun _ h => ⟨fun c => (h.1 c).2, h.2⟩)
    (run_main (F := Ideal) m ρ fun d k => of_in_range _ _ (hp d) k)

/-- The same where the entries are finite as well. -/
theorem frame_ideal_finite : Cert.quiescent_KernelIdeal_pre_finite_in_range := fun m ρ hp =>
  (θ_run (Cert.KernelIdeal.defs (F := Ideal)) _ _).mono (fun _ h => ⟨fun c => (h.1 c).2, h.2⟩)
    (run_main (F := Ideal) m ρ fun d k => (of_finite_in_range _ _ (hp d)).1 k)

/-- The reference ends, its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_reference_finite : Cert.quiescent_ReferenceIdeal_pre_finite_in_range := fun m ρ _ => frame_reference m ρ trivial

/-- The ideal program's named constants have their values. -/
theorem preserves : Cert.preserves_Kernel_KernelIdeal :=
  ⟨IdealRules.named_const.statement Cert.KernelIdeal.κ "off_sub_on" .f32 0xBF666632#32 _ rfl,
    IdealRules.named_const.statement Cert.KernelIdeal.κ "neg_off" .f32 0xB651BA72#32 _ rfl,
    IdealRules.named_const.statement Cert.KernelIdeal.κ "off" .f32 0x3651BA72#32 _ rfl,
    IdealRules.named_const.statement Cert.KernelIdeal.κ "entropy" .f32 0xBFAE63F8#32 _ rfl⟩

end Cert.Proof.Smooth

end
-- ==== Proof.RefScatter.lean ====
/-
  The reference's two updates of its table of weights, read at an entry: one entry of every row, and the whole first column.
-/
module

public import proofs.«01_k».proof.Proof.Gen.ReferenceIdeal
public import Idealize.ShloMosaic.Lib.Routing.OpsOne
public import Idealize.ShloMosaic.Lib.Routing.OpsPair
public import Idealize.ShloMosaic.Lib.Routing.OpsSet

@[expose] public section

set_option maxRecDepth 16384

noncomputable section

namespace Cert.Proof.Smooth

open Cert.ReferenceIdeal Cert.ReferenceIdeal.Gen

open Idealize.ShloMosaic Idealize.ShloMosaic.ValueIdx Idealize.ShloMosaic.Routing

/-- Update `k` of one entry a row lands at the row and column that its two words say. -/
theorem entry_lands (idx : IVec S4096x2 32) (k r : Fin 4096) (c : Fin 32000) :
    ScatterDims.resultIdx? scatter_S4096x32000_S4096x2_S4096_n_01_01_1 (ix1 k : S4096.Idx) idx = some (ix2 r c)
      ↔ (idx (ix2 k (0 : Fin 2))).toInt = r.val ∧ (idx (ix2 k (1 : Fin 2))).toInt = c.val := by
  have s0 : ScatterDims.start scatter_S4096x32000_S4096x2_S4096_n_01_01_1 (ix1 k : S4096.Idx) idx 0 = (idx (ix2 k (0 : Fin 2))).toInt := by
    unfold ScatterDims.start
    rw [dif_pos (by decide)]
    congr 2
    funext b
    match b with
    | ⟨0, _⟩ => rfl
    | ⟨1, _⟩ => rfl
  have s1 : ScatterDims.start scatter_S4096x32000_S4096x2_S4096_n_01_01_1 (ix1 k : S4096.Idx) idx 1 = (idx (ix2 k (1 : Fin 2))).toInt := by
    unfold ScatterDims.start
    rw [dif_pos (by decide)]
    congr 2
    funext b
    match b with
    | ⟨0, _⟩ => rfl
    | ⟨1, _⟩ => rfl
  have w0 : ScatterDims.window scatter_S4096x32000_S4096x2_S4096_n_01_01_1 (ix1 k : S4096.Idx) 0 = 0 := dif_neg (by decide)
  have w1 : ScatterDims.window scatter_S4096x32000_S4096x2_S4096_n_01_01_1 (ix1 k : S4096.Idx) 1 = 0 := dif_neg (by decide)
  rw [resultIdx?_ix2 (R := 4096) (C := 32000), s0, s1, w0, w1]
  omega

/-- One entry of every row is set: the one in column `T r` of row `r`. -/
theorem entry_set {α : Type} (x0 : S4096x32000.Idx → α) (idx : IVec S4096x2 32) (upd : S4096.Idx → α) (T : ℕ → ℕ)
    (h0 : ∀ k : Fin 4096, (idx (ix2 k (0 : Fin 2))).toInt = k.val) (h1 : ∀ k : Fin 4096, (idx (ix2 k (1 : Fin 2))).toInt = T k.val)
    (r : Fin 4096) (c : Fin 32000) :
    Host.scatter scatter_S4096x32000_S4096x2_S4096_n_01_01_1 (fun _ b => b) x0 idx upd (ix2 r c) = if c.val = T r.val then upd (ix1 r) else x0 (ix2 r c) := by
  have lands : ∀ j : S4096.Idx, ScatterDims.resultIdx? scatter_S4096x32000_S4096x2_S4096_n_01_01_1 j idx = some (ix2 r c) → j = ix1 r ∧ c.val = T r.val := fun j hj => by
    obtain ⟨k, rfl⟩ : ∃ k : Fin 4096, j = ix1 k := ⟨j 0, eq_ix1 j⟩
    have h := (entry_lands idx k r c).1 hj
    rw [h0, h1] at h
    have hr : k = r := Fin.ext (Int.ofNat.inj h.1)
    rw [hr] at h ⊢
    exact ⟨rfl, (Int.ofNat.inj h.2).symm⟩
  by_cases h : c.val = T r.val
  · rw [if_pos h]
    exact scatter_set_hit _ x0 idx upd _ _ (fun j hj => congrArg upd (lands j hj).1) (ix1 r)
      ((entry_lands idx r r c).2 ⟨h0 r, by rw [h1, h]⟩)
  · rw [if_neg h]
    exact scatter_set_miss _ x0 idx upd _ fun j hj => h (lands j hj).2

/-- The first column is set. -/
theorem column_set {α : Type} (x0 : S4096x32000.Idx → α) (idx : IVec S1 32) (upd : S4096.Idx → α) (h0 : (idx (ix1 (0 : Fin 1))).toInt = 0)
    (r : Fin 4096) (c : Fin 32000) :
    Host.scatter scatter_S4096x32000_S1_S4096_0_1_1_0 (fun _ b => b) x0 idx upd (ix2 r c) = if c.val = 0 then upd (ix1 r) else x0 (ix2 r c) := by
  have L := fun w => lands_col scatter_S4096x32000_S1_S4096_0_1_1_0 rfl rfl idx (0 : Fin 32000) h0 w r c
  have lands : ∀ j : S4096.Idx, ScatterDims.resultIdx? scatter_S4096x32000_S1_S4096_0_1_1_0 j idx = some (ix2 r c) → j = ix1 r ∧ c = 0 := fun j hj => by
    rw [eq_ix1 j] at hj ⊢
    have h := (L (j 0)).1 hj
    rw [h.1]
    exact ⟨rfl, h.2⟩
  by_cases h : c.val = 0
  · rw [if_pos h]
    exact scatter_set_hit _ x0 idx upd _ _ (fun j hj => congrArg upd (lands j hj).1) (ix1 r) ((L r).2 ⟨rfl, Fin.ext h⟩)
  · rw [if_neg h]
    exact scatter_set_miss _ x0 idx upd _ fun j hj => h (congrArg Fin.val (lands j hj).2)

end Cert.Proof.Smooth

end
-- ==== Proof.Consts.lean ====
/-
  The numbers behind the constants that the two programs spell, at the reading of floats as extended reals; and sums over
  ranges, cut into blocks.
-/
module

public import Idealize.ShloMosaic.PureOps.Ideal
public import Idealize.ShloMosaic.PureOps.IdealRules
public import proofs.«01_k».proof.KernelIdeal

@[expose] public section

noncomputable section

namespace Cert.Proof.Smooth

open Idealize.ShloMosaic

/-- The word of `0.0` is zero. -/
theorem word_zero : Ideal.ofBits .f32 0x00000000#32 = ((0 : ℝ) : EReal) := by
  simp [Ideal.ofBits, Ideal.ieee]

/-- The word of `1.0` is one. -/
theorem word_one : Ideal.ofBits .f32 0x3F800000#32 = ((1 : ℝ) : EReal) := by
  simp [Ideal.ofBits, Ideal.ieee, -EReal.coe_mul]; norm_num

/-- The word of `319980.0`. -/
theorem word_319980 : Ideal.ofBits .f32 0x489C3D80#32 = ((319980 : ℝ) : EReal) := by
  simp [Ideal.ofBits, Ideal.ieee, -EReal.coe_mul]; norm_num

/-- The word of `9.0`. -/
theorem word_nine : Ideal.ofBits .f32 0x41100000#32 = ((9 : ℝ) : EReal) := by
  simp [Ideal.ofBits, Ideal.ieee, -EReal.coe_mul]; norm_num

/-- The word of `10.0`. -/
theorem word_ten : Ideal.ofBits .f32 0x41200000#32 = ((10 : ℝ) : EReal) := by
  simp [Ideal.ofBits, Ideal.ieee, -EReal.coe_mul]; norm_num

/-- The word of the infinity. -/
theorem word_inf : Ideal.ofBits .f32 0x7F800000#32 = ⊤ := by
  simp [Ideal.ofBits, Ideal.ieee]

/-- The small weight. -/
theorem named_off : Named.named (F := Ideal) Cert.KernelIdeal.κ "off" (φ := .f32) 0x3651BA72#32 = ((1 / 319980 : ℝ) : EReal) :=
  IdealRules.named_const.ideal_named_scalar _ _ _ _ rfl

/-- Minus the small weight. -/
theorem named_neg_off : Named.named (F := Ideal) Cert.KernelIdeal.κ "neg_off" (φ := .f32) 0xB651BA72#32 = ((-1 / 319980 : ℝ) : EReal) :=
  IdealRules.named_const.ideal_named_scalar _ _ _ _ rfl

/-- The small weight minus the large one. -/
theorem named_off_sub_on :
    Named.named (F := Ideal) Cert.KernelIdeal.κ "off_sub_on" (φ := .f32) 0xBF666632#32 = ((-287981 / 319980 : ℝ) : EReal) :=
  IdealRules.named_const.ideal_named_scalar _ _ _ _ rfl

/-- The part of a row's loss that does not depend on `x`. -/
theorem named_entropy :
    Named.named (F := Ideal) Cert.KernelIdeal.κ "entropy" (φ := .f32) 0xBFAE63F8#32
      = (((1 / 10) * Real.log (129140163 / 106660000000000) : ℝ) : EReal) :=
  IdealRules.named_const.ideal_named_scalar _ _ _ _ rfl

/-! ## Sums -/

/-- A sum over `k n` numbers, block by block. -/
theorem sum_blocks {M : Type*} [AddCommMonoid M] (g : ℕ → M) (k : ℕ) :
    ∀ n, ∑ i ∈ Finset.range (k * n), g i = ∑ m ∈ Finset.range n, ∑ j ∈ Finset.range k, g (k * m + j)
  | 0 => by simp
  | n + 1 => by rw [Nat.mul_succ, Finset.sum_range_add, sum_blocks g k n, Finset.sum_range_succ]

/-- A sum of reals, read as extended reals. -/
theorem coe_sum {ι : Type*} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- The same over the numbers below `n`, the terms given one by one. -/
theorem sum_fin_coe {n : ℕ} (F : Fin n → EReal) (f : ℕ → ℝ) (h : ∀ i : Fin n, F i = (f i.val : EReal)) :
    ∑ i, F i = ((∑ i ∈ Finset.range n, f i : ℝ) : EReal) := by
  rw [coe_sum, Finset.sum_range]
  exact Finset.sum_congr rfl fun i _ => h i

end Cert.Proof.Smooth

end
-- ==== Proof.SparseValue.lean ====
/-
  What the SparseCore kernel's partial sums are, at the reading of floats as extended reals, where every entry of `x` is a
  real number: sums over the rows of each tile and the columns from 16000 on.
-/
module

public import proofs.«01_k».proof.Proof.Epilogue
public import proofs.«01_k».proof.Proof.Consts

@[expose] public section

set_option maxRecDepth 16384

noncomputable section

namespace Cert.Proof.Smooth

open Cert.KernelIdeal Cert.KernelIdeal.Gen

open Idealize.ShloMosaic Idealize.ShloMosaic.ValueIdx
open Finset (range)

/-- The arguments, as real numbers `X r c` and natural numbers `T r` below 32000. -/
structure Reads (fx : S4096x32000.Idx → Ideal .f32) (ft : S4096.Idx → BitVec 32) (X : ℕ → ℕ → ℝ) (T : ℕ → ℕ) : Prop where
  x : ∀ (r : Fin 4096) (c : Fin 32000), fx (ix2 r c) = (X r.val c.val : EReal)
  t : ∀ r : Fin 4096, ft (ix1 r) = BitVec.ofNat 32 (T r.val)
  lt : ∀ r, T r < 32000

/-! ## One row's sum -/

section Row
variable (b : S16000.Idx → Ideal .f32) (g : ℕ → EReal) (hb : ∀ k (h : k < 16000), b (ix1 ⟨k, h⟩) = g k)
include hb

theorem piece_val (o : ℕ) (l : Fin 16) (h : o + l.val < 16000) : (piece b o (lane l) : EReal) = g (o + l.val) :=
  (dif_pos h).trans (hb _ h)

/-- The four accumulators together, in one lane, after `n` steps: eight pieces of every step. -/
theorem join_val (l : Fin 16) : ∀ n, n ≤ 125 →
    (join4 (accs b n) (lane l) : EReal) = ∑ m ∈ range n, ∑ k ∈ range 8, g (128 * m + (16 * k + l.val))
  | 0, _ => by
    show ((Ideal.ofBits .f32 0x00000000#32 + Ideal.ofBits .f32 0x00000000#32) + (Ideal.ofBits .f32 0x00000000#32 + Ideal.ofBits .f32 0x00000000#32) : EReal) = _
    rw [word_zero]; simp
  | n + 1, hn => by
    have hl := l.isLt
    have e : (join4 (accs b (n + 1)) (lane l) : EReal) = join4 (accs b n) (lane l)
        + (piece b (128 * n) (lane l) + piece b (128 * n + 16) (lane l) + piece b (128 * n + 32) (lane l) + piece b (128 * n + 48) (lane l)
          + piece b (128 * n + 64) (lane l) + piece b (128 * n + 80) (lane l) + piece b (128 * n + 96) (lane l) + piece b (128 * n + 112) (lane l)) := by
      show ((((accs b n).1 (lane l) + piece b (128 * n) (lane l) + piece b (128 * n + 64) (lane l))
            + ((accs b n).2.1 (lane l) + piece b (128 * n + 16) (lane l) + piece b (128 * n + 80) (lane l)))
          + (((accs b n).2.2.1 (lane l) + piece b (128 * n + 32) (lane l) + piece b (128 * n + 96) (lane l))
            + ((accs b n).2.2.2 (lane l) + piece b (128 * n + 48) (lane l) + piece b (128 * n + 112) (lane l))) : EReal)
        = (((accs b n).1 (lane l) + (accs b n).2.1 (lane l)) + ((accs b n).2.2.1 (lane l) + (accs b n).2.2.2 (lane l))) + _
      abel
    rw [e, join_val l n (by omega), Finset.sum_range_succ, piece_val b g hb _ l (by omega), piece_val b g hb _ l (by omega),
      piece_val b g hb _ l (by omega), piece_val b g hb _ l (by omega), piece_val b g hb _ l (by omega), piece_val b g hb _ l (by omega),
      piece_val b g hb _ l (by omega), piece_val b g hb _ l (by omega)]
    congr 1
    simp only [Finset.sum_range_succ, Finset.sum_range_zero, zero_add, Nat.add_assoc]
    norm_num

omit hb in
/-- The lanes of a vector, added from the first on. -/
theorem laneSum_val (v : Fin 16 → Ideal .f32) : ∀ n, (laneSum v n : EReal) = ∑ l ∈ range (n + 1), v (Fin.ofNat 16 l)
  | 0 => by simp [laneSum]
  | n + 1 => by
    rw [Finset.sum_range_succ, ← laneSum_val v n]
    rfl

/-- A row's sum is the sum of its 16000 entries. -/
theorem rowVal_val : (rowVal b : EReal) = ∑ c ∈ range 16000, g c := by
  unfold rowVal
  rw [laneSum_val, show 16000 = 128 * 125 from rfl, sum_blocks g 128 125]
  rw [Finset.sum_congr rfl fun l hl => (join_val b g hb (Fin.ofNat 16 l) 125 le_rfl : _)]
  rw [Finset.sum_comm]
  refine Finset.sum_congr rfl fun m _ => ?_
  rw [show 128 = 16 * 8 from rfl, sum_blocks (fun j => g (16 * 8 * m + j)) 16 8, Finset.sum_comm]
  refine Finset.sum_congr rfl fun k _ => Finset.sum_congr rfl fun l hl => ?_
  rw [show (Fin.ofNat 16 l).val = l from Nat.mod_eq_of_lt (Finset.mem_range.1 hl)]

end Row

/-! ## A tile's output -/

/-- What row `R` adds to the gathered sum. -/
def hiGat (X : ℕ → ℕ → ℝ) (T : ℕ → ℕ) (R : ℕ) : ℝ := if 16000 ≤ T R then X R (T R) else 0

/-- What row `R` adds by its sum. -/
def hiSum (X : ℕ → ℕ → ℝ) (T : ℕ → ℕ) (R : ℕ) : ℝ := if T R = 0 then 0 else -1 / 319980 * ∑ c ∈ range 16000, X R (16000 + c)

section Tile
variable {fx : S4096x32000.Idx → Ideal .f32} {ft : S4096.Idx → BitVec 32} {X : ℕ → ℕ → ℝ} {T : ℕ → ℕ} (H : Reads fx ft X T)
include H

theorem xrow_val (R : ℕ) (hR : R < 4096) (k : ℕ) (h : k < 16000) : xrow fx R (ix1 ⟨k, h⟩) = (X R (16000 + k) : EReal) := by
  unfold xrow
  rw [show Fin.ofNat 4096 R = ⟨R, hR⟩ from Fin.ext (Nat.mod_eq_of_lt hR)]
  exact H.x _ _

theorem rowVal_x (R : ℕ) (hR : R < 4096) : (rowVal (xrow fx R) : EReal) = ((∑ c ∈ range 16000, X R (16000 + c) : ℝ) : EReal) := by
  rw [rowVal_val (xrow fx R) (fun c => (X R (16000 + c) : EReal)) fun k h => xrow_val H R hR k h, coe_sum]

theorem tileT_val (B R : ℕ) (hR : R < 128) (hB : B + 128 ≤ 4096) : tileT ft B R = BitVec.ofNat 32 (T (B + R)) := by
  unfold tileT
  have h : B + R < 4096 := by omega
  rw [Nat.mod_eq_of_lt hR, show Fin.ofNat 4096 (B + R) = ⟨B + R, h⟩ from Fin.ext (Nat.mod_eq_of_lt h)]
  exact H.t _

theorem gat_val (B R : ℕ) (hR : R < 128) (hB : B + 128 ≤ 4096) (l : Fin 16) :
    (gat (xrow fx (B + R)) (tileT ft B R) (lane l) : EReal) = ((if l.val = 0 then hiGat X T (B + R) else 0 : ℝ) : EReal) := by
  rw [tileT_val H B R hR hB]
  have ht := H.lt (B + R)
  unfold gat hiGat
  have hs : (16000#32).sle (BitVec.ofNat 32 (T (B + R))) = true ↔ 16000 ≤ T (B + R) := by
    rw [BitVec.sle_iff_toInt_le, BitVec.toInt_eq_toNat_cond, BitVec.toInt_eq_toNat_cond, BitVec.toNat_ofNat, BitVec.toNat_ofNat]
    norm_num
    omega
  by_cases h0 : l.val = 0
  · by_cases h : 16000 ≤ T (B + R)
    · rw [if_pos ⟨h0, hs.2 h⟩, if_pos h0, if_pos h]
      have hn : (BitVec.ofNat 32 (T (B + R)) - 16000#32).toNat = T (B + R) - 16000 := by
        rw [BitVec.toNat_sub, BitVec.toNat_ofNat, BitVec.toNat_ofNat]
        omega
      have hk : T (B + R) - 16000 < 16000 := by omega
      rw [hn, show Fin.ofNat 16000 (T (B + R) - 16000) = ⟨T (B + R) - 16000, hk⟩ from Fin.ext (Nat.mod_eq_of_lt hk),
        xrow_val H _ (by omega), Nat.add_sub_cancel' h]
    · rw [if_neg fun q => h (hs.1 q.2), if_pos h0, if_neg h]
      exact word_zero
  · rw [if_neg fun q => h0 q.1, if_neg h0]
    exact word_zero

theorem gsum_val (B : ℕ) (hB : B + 128 ≤ 4096) (l : Fin 16) : ∀ n, n ≤ 128 →
    (gsum (fun R => xrow fx (B + R)) (tileT ft B) n (lane l) : EReal)
      = ((∑ R ∈ range n, if l.val = 0 then hiGat X T (B + R) else 0 : ℝ) : EReal)
  | 0, _ => by
    rw [Finset.sum_range_zero]
    exact word_zero
  | n + 1, hn => by
    show (gsum (fun R => xrow fx (B + R)) (tileT ft B) n (lane l) + gat (xrow fx (B + n)) (tileT ft B n) (lane l) : EReal) = _
    rw [gsum_val B hB l n (by omega), gat_val H B n (by omega) hB l, ← EReal.coe_add, Finset.sum_range_succ]

theorem grp_val (B : ℕ) (hB : B + 128 ≤ 4096) (l : Fin 16) (n : ℕ) (hn : n < 8) :
    (grp (tileT ft B) (fun R => rowVal (xrow fx (B + R))) n (lane l) : EReal) = (hiSum X T (B + (16 * n + l.val)) : EReal) := by
  have hl := l.isLt
  have hR : 16 * n + l.val < 128 := by omega
  have ht := H.lt (B + (16 * n + l.val))
  show Scalar.select (IntOp.cmpi .ne (tileT ft B (16 * n + l.val)) 0#32)
    ((Named.named (F := Ideal) κ "neg_off" (φ := .f32) 0xB651BA72#32 : EReal) * (rowVal (xrow fx (B + (16 * n + l.val))) : EReal)) (Ideal.ofBits .f32 0x00000000#32) = _
  rw [tileT_val H B _ hR hB, named_neg_off, rowVal_x H _ (by omega), word_zero, ← EReal.coe_mul]
  unfold hiSum
  by_cases h : T (B + (16 * n + l.val)) = 0
  · rw [if_pos h, h]; rfl
  · rw [if_neg h]
    have hne : BitVec.ofNat 32 (T (B + (16 * n + l.val))) ≠ 0#32 := fun q => h (by
      have := congrArg BitVec.toNat q
      rw [BitVec.toNat_ofNat, BitVec.toNat_ofNat] at this
      omega)
    rw [show IntOp.cmpi .ne (BitVec.ofNat 32 (T (B + (16 * n + l.val)))) 0#32 = 1#1 from congrArg BitVec.ofBool (bne_iff_ne.2 hne)]
    rfl

theorem outVec_val (B : ℕ) (hB : B + 128 ≤ 4096) (l : Fin 16) : ∀ n, n ≤ 8 →
    (outVec (gsum (fun R => xrow fx (B + R)) (tileT ft B) 128) (tileT ft B) (fun R => rowVal (xrow fx (B + R))) n (lane l) : EReal)
      = ((-287981 / 319980 * (∑ R ∈ range 128, if l.val = 0 then hiGat X T (B + R) else 0) + ∑ k ∈ range n, hiSum X T (B + (16 * k + l.val)) : ℝ) : EReal)
  | 0, _ => by
    show ((Named.named (F := Ideal) κ "off_sub_on" (φ := .f32) 0xBF666632#32 : EReal) * (gsum (fun R => xrow fx (B + R)) (tileT ft B) 128 (lane l) : EReal)) = _
    rw [named_off_sub_on, gsum_val H B hB l 128 le_rfl, ← EReal.coe_mul, Finset.sum_range_zero, add_zero]
  | n + 1, hn => by
    show (outVec (gsum (fun R => xrow fx (B + R)) (tileT ft B) 128) (tileT ft B) (fun R => rowVal (xrow fx (B + R))) n (lane l)
      + grp (tileT ft B) (fun R => rowVal (xrow fx (B + R))) n (lane l) : EReal) = _
    rw [outVec_val B hB l n (by omega), grp_val H B hB l n (by omega), ← EReal.coe_add, Finset.sum_range_succ _ n, add_assoc]

/-- All the partial sums together. -/
theorem parts_sum : (∑ w : Fin 32, ∑ l : Fin 16, (parts fx ft (ix2 w l) : EReal))
    = ((∑ R ∈ range 4096, (-287981 / 319980 * hiGat X T R + hiSum X T R) : ℝ) : EReal) := by
  have h1 : ∀ w : Fin 32, (∑ l : Fin 16, (parts fx ft (ix2 w l) : EReal))
      = ((∑ l ∈ range 16, (-287981 / 319980 * (∑ R ∈ range 128, if l = 0 then hiGat X T (128 * w.val + R) else 0)
          + ∑ k ∈ range 8, hiSum X T (128 * w.val + (16 * k + l))) : ℝ) : EReal) := fun w =>
    sum_fin_coe _ _ fun l => outVec_val H (128 * w.val) (by have := w.isLt; omega) l 8 le_rfl
  rw [sum_fin_coe _ (fun w => ∑ l ∈ range 16, (-287981 / 319980 * (∑ R ∈ range 128, if l = 0 then hiGat X T (128 * w + R) else 0)
    + ∑ k ∈ range 8, hiSum X T (128 * w + (16 * k + l)))) h1, show 4096 = 128 * 32 from rfl, sum_blocks _ 128 32]
  congr 1
  refine Finset.sum_congr rfl fun w _ => ?_
  rw [Finset.sum_add_distrib, Finset.sum_add_distrib]
  congr 1
  · rw [← Finset.mul_sum, ← Finset.mul_sum, Finset.sum_comm]
    congr 1
    refine Finset.sum_congr rfl fun R _ => ?_
    rw [Finset.sum_ite_eq' (range 16) 0 fun _ => hiGat X T (128 * w + R)]
    simp
  · rw [Finset.sum_comm, show 128 = 16 * 8 from rfl, sum_blocks (fun j => hiSum X T (16 * 8 * w + j)) 16 8]

end Tile

end Cert.Proof.Smooth

end
-- ==== Proof.GridValue.lean ====
/-
  What the TensorCore kernel's total is, at the reading of floats as extended reals, where every entry of `x` is a real
  number: a sum over all rows and the columns below 16000.
-/
module

public import proofs.«01_k».proof.Proof.Region
public import proofs.«01_k».proof.Proof.SparseValue
public import Idealize.ShloMosaic.Lib.Pointwise
public import Idealize.ShloMosaic.Lib.Pipeline.Value

@[expose] public section

set_option maxRecDepth 16384

noncomputable section

namespace Cert.Proof.Smooth

open Cert.KernelIdeal Cert.KernelIdeal.Gen

open Idealize.ShloMosaic
open Finset (range)

theorem Reads.at2 {fx : S4096x32000.Idx → Ideal .f32} {ft : S4096.Idx → BitVec 32} {X : ℕ → ℕ → ℝ} {T : ℕ → ℕ} (H : Reads fx ft X T)
    (r : Fin 4096) (c : Fin 32000) : fx (ix2 r c) = (X r.val c.val : EReal) := by
  rw [ix2_eq_valueIdx]; exact H.x r c

theorem Reads.at1 {fx : S4096x32000.Idx → Ideal .f32} {ft : S4096.Idx → BitVec 32} {X : ℕ → ℕ → ℝ} {T : ℕ → ℕ} (H : Reads fx ft X T)
    (r : Fin 4096) : ft (ix1 r) = BitVec.ofNat 32 (T r.val) := by
  rw [ix1_eq_valueIdx]; exact H.t r

/-! ## One grid point -/

/-- What row `R` adds at block `j` of the columns. -/
def lo (X : ℕ → ℕ → ℝ) (T : ℕ → ℕ) (j R : ℕ) : ℝ :=
  -1 / 319980 * (if T R = 0 then 0 else ∑ c ∈ range 3200, X R (3200 * j + c))
    + -287981 / 319980 * ∑ c ∈ range 3200, if T R = 3200 * j + c ∧ T R ≠ 0 then X R (3200 * j + c) else 0

/-- What row `R` adds once. -/
def once (X : ℕ → ℕ → ℝ) (T : ℕ → ℕ) (R : ℕ) : ℝ :=
  1 / 319980 * (if T R = 0 then 0 else X R 0) + ((1 / 10) * Real.log (129140163 / 106660000000000)) * (if T R = 0 then 0 else 1)

theorem sel_ne {α : Type} (n : ℕ) (hn : n < 32000) (a b : α) :
    Scalar.select (IntOp.cmpi .ne (BitVec.ofNat 32 n) 0#32) a b = if n = 0 then b else a := by
  by_cases h : n = 0
  · rw [if_pos h, h]; rfl
  · have hne : BitVec.ofNat 32 n ≠ 0#32 := fun q => h (by
      have := congrArg BitVec.toNat q
      rw [BitVec.toNat_ofNat, BitVec.toNat_ofNat] at this
      omega)
    rw [if_neg h, show IntOp.cmpi .ne (BitVec.ofNat 32 n) 0#32 = 1#1 from congrArg BitVec.ofBool (bne_iff_ne.2 hne)]
    rfl

theorem sel_hit {α : Type} (n j c : ℕ) (hn : n < 32000) (hj : j < 5) (hc : c < 3200) (a b : α) :
    Scalar.select (IntOp.andi
        (IntOp.cmpi .eq (BitVec.ofNat 32 n) (IntOp.addi (Scalar.muli (BitVec.ofNat 32 j) 3200#32) (BitVec.ofNat 32 c)))
        (IntOp.cmpi .ne (BitVec.ofNat 32 n) 0#32)) a b
      = if n = 3200 * j + c ∧ n ≠ 0 then a else b := by
  have e : IntOp.addi (Scalar.muli (BitVec.ofNat 32 j) 3200#32) (BitVec.ofNat 32 c) = BitVec.ofNat 32 (3200 * j + c) := by
    show BitVec.ofNat 32 j * 3200#32 + BitVec.ofNat 32 c = _
    rw [Nat.mul_comm, BitVec.ofNat_add, BitVec.ofNat_mul]
  rw [e]
  by_cases h : n = 3200 * j + c
  · rw [← h, show IntOp.cmpi .eq (BitVec.ofNat 32 n) (BitVec.ofNat 32 n) = 1#1 from congrArg BitVec.ofBool (beq_iff_eq.2 rfl)]
    rw [show ∀ w : BitVec 1, IntOp.andi 1#1 w = w by decide, sel_ne n hn]
    by_cases h0 : n = 0
    · rw [if_pos h0, if_neg fun q => q.2 h0]
    · rw [if_neg h0, if_pos ⟨rfl, h0⟩]
  · have hne : BitVec.ofNat 32 n ≠ BitVec.ofNat 32 (3200 * j + c) := fun q => h (by
      have := congrArg BitVec.toNat q
      rw [BitVec.toNat_ofNat, BitVec.toNat_ofNat] at this
      omega)
    rw [show IntOp.cmpi .eq (BitVec.ofNat 32 n) (BitVec.ofNat 32 (3200 * j + c)) = 0#1 from congrArg BitVec.ofBool (beq_eq_false_iff_ne.2 hne)]
    rw [show ∀ w : BitVec 1, IntOp.andi 0#1 w = 0#1 by decide, if_neg fun q => h q.1]
    rfl

section Block
variable (X : ℕ → ℕ → ℝ) (T : ℕ → ℕ) (hT : ∀ r, T r < 32000) (B j : ℕ) (hj : j < 5)
  (v : Vec Ideal S1x256x1 .i32) (x : Vec Ideal S256x3200 .f32)
  (hv : ∀ k : Fin 256, v (ix3 0 k 0) = BitVec.ofNat 32 (T (B + k.val)))
  (hx : ∀ (k : Fin 256) (c : Fin 3200), x (ix2 k c) = (X (B + k.val) (3200 * j + c.val) : EReal))
include hT hj hv hx

/-- The part that every block of columns adds. -/
theorem pay5_val (i : grid1.Coords) (hi : (i 1).val = j) :
    (k1_pay5 i v x : EReal) = ((∑ k ∈ range 256, lo X T j (B + k) : ℝ) : EReal) := by
  have e : (k1_pay5 i v x : EReal)
      = Named.named (F := Ideal) κ "neg_off" (φ := .f32) 0xB651BA72#32 * (∑ k : Fin 256, ∑ _ : Fin 1,
          Scalar.select (IntOp.cmpi .ne (v (ix3 0 k 0)) 0#32) (∑ c : Fin 3200, (x (ix2 k c) : EReal)) 0)
        + Named.named (F := Ideal) κ "off_sub_on" (φ := .f32) 0xBF666632#32 * (∑ k : Fin 256, ∑ c : Fin 3200,
          Scalar.select (IntOp.andi (IntOp.cmpi .eq (v (ix3 0 k 0)) (IntOp.addi (Scalar.muli (BitVec.ofNat 32 (i 1).val) 3200#32) (BitVec.ofNat 32 c.val)))
            (IntOp.cmpi .ne (v (ix3 0 k 0)) 0#32)) (x (ix2 k c) : EReal) 0) := by
    unfold k1_pay5 k1_pay4 k1_pay3
    pointwise
  have e1 : (∑ k : Fin 256, ∑ _ : Fin 1, Scalar.select (IntOp.cmpi .ne (v (ix3 0 k 0)) 0#32) (∑ c : Fin 3200, (x (ix2 k c) : EReal)) 0)
      = ((∑ k ∈ range 256, if T (B + k) = 0 then 0 else ∑ c ∈ range 3200, X (B + k) (3200 * j + c) : ℝ) : EReal) :=
    sum_fin_coe _ (fun k => if T (B + k) = 0 then 0 else ∑ c ∈ range 3200, X (B + k) (3200 * j + c)) fun k => by
      rw [Fin.sum_univ_one, hv, sel_ne _ (hT _), sum_fin_coe _ (fun c => X (B + k.val) (3200 * j + c)) fun c => hx k c]
      split <;> rfl
  have e2 : (∑ k : Fin 256, ∑ c : Fin 3200,
          Scalar.select (IntOp.andi (IntOp.cmpi .eq (v (ix3 0 k 0)) (IntOp.addi (Scalar.muli (BitVec.ofNat 32 (i 1).val) 3200#32) (BitVec.ofNat 32 c.val)))
            (IntOp.cmpi .ne (v (ix3 0 k 0)) 0#32)) (x (ix2 k c) : EReal) 0)
      = ((∑ k ∈ range 256, ∑ c ∈ range 3200, if T (B + k) = 3200 * j + c ∧ T (B + k) ≠ 0 then X (B + k) (3200 * j + c) else 0 : ℝ) : EReal) :=
    sum_fin_coe _ (fun k => ∑ c ∈ range 3200, if T (B + k) = 3200 * j + c ∧ T (B + k) ≠ 0 then X (B + k) (3200 * j + c) else 0) fun k =>
      sum_fin_coe _ (fun c => if T (B + k.val) = 3200 * j + c ∧ T (B + k.val) ≠ 0 then X (B + k.val) (3200 * j + c) else 0) fun c => by
        rw [hv, hi, sel_hit _ _ _ (hT _) hj c.isLt, hx]
        split <;> rfl
  rw [e, e1, e2, named_neg_off, named_off_sub_on, ← EReal.coe_mul, ← EReal.coe_mul, ← EReal.coe_add]
  congr 1
  unfold lo
  rw [Finset.sum_add_distrib, Finset.mul_sum, Finset.mul_sum]

/-- The part that only the first block of columns adds. -/
theorem pay1_val (h0 : j = 0) (a : EReal) :
    (k1_pay1 (k1_pay4 (F := Ideal) v) x a : EReal) = a + ((∑ k ∈ range 256, once X T (B + k) : ℝ) : EReal) := by
  subst h0
  have e : (k1_pay1 (k1_pay4 (F := Ideal) v) x a : EReal)
      = a + (Named.named (F := Ideal) κ "off" (φ := .f32) 0x3651BA72#32 * (∑ k : Fin 256, ∑ _ : Fin 1,
          Scalar.select (IntOp.cmpi .ne (v (ix3 0 k 0)) 0#32) (x (ix2 k 0) : EReal) 0)
        + Named.named (F := Ideal) κ "entropy" (φ := .f32) 0xBFAE63F8#32 * (∑ k : Fin 256, ∑ _ : Fin 1,
          Scalar.select (IntOp.cmpi .ne (v (ix3 0 k 0)) 0#32) (1 : EReal) 0)) := by
    unfold k1_pay1 k1_pay4 k1_pay3
    pointwise
  have e1 : (∑ k : Fin 256, ∑ _ : Fin 1, Scalar.select (IntOp.cmpi .ne (v (ix3 0 k 0)) 0#32) (x (ix2 k 0) : EReal) 0)
      = ((∑ k ∈ range 256, if T (B + k) = 0 then 0 else X (B + k) 0 : ℝ) : EReal) :=
    sum_fin_coe _ (fun k => if T (B + k) = 0 then 0 else X (B + k) 0) fun k => by
      rw [Fin.sum_univ_one, hv, sel_ne _ (hT _), hx k 0]
      split <;> rfl
  have e2 : (∑ k : Fin 256, ∑ _ : Fin 1, Scalar.select (IntOp.cmpi .ne (v (ix3 0 k 0)) 0#32) (1 : EReal) 0)
      = ((∑ k ∈ range 256, if T (B + k) = 0 then 0 else 1 : ℝ) : EReal) :=
    sum_fin_coe _ (fun k => if T (B + k) = 0 then 0 else 1) fun k => by
      rw [Fin.sum_univ_one, hv, sel_ne _ (hT _)]
      split <;> rfl
  rw [e, e1, e2, named_off, named_entropy, ← EReal.coe_mul, ← EReal.coe_mul, ← EReal.coe_add]
  congr 2
  unfold once
  rw [Finset.sum_add_distrib, Finset.mul_sum, Finset.mul_sum]

end Block

/-! ## The whole grid -/

section Grid
variable {fx : S4096x32000.Idx → Ideal .f32} {ft : S4096.Idx → BitVec 32} {X : ℕ → ℕ → ℝ} {T : ℕ → ℕ} (H : Reads fx ft X T)

theorem coords_row (t : Fin cfg1.N) : (grid1.coords t 0).val = t.val / 5 := by
  have h : t.val < 80 := t.isLt.trans_eq N_1
  rw [Pipeline.Grid.coords_val (G := grid1) t 0 (S := 5) (B := 16) (by decide) (by decide)]
  omega

theorem coords_col (t : Fin cfg1.N) : (grid1.coords t 1).val = t.val % 5 := by
  rw [Pipeline.Grid.coords_val (G := grid1) t 1 (S := 1) (B := 5) (by decide) (by decide), Nat.div_one]

/-- The targets in blocks of 256. -/
abbrev blocks (ft : S4096.Idx → BitVec 32) : S16x256x1.Idx → BitVec 32 := shapeCast S16x256x1 ft shapeCasts_S4096_S16x256x1

/-- What point `n` of the grid adds. -/
def ptVal (X : ℕ → ℕ → ℝ) (T : ℕ → ℕ) (n : ℕ) : ℝ :=
  (if n % 5 = 0 then ∑ k ∈ range 256, once X T (256 * (n / 5) + k) else 0) + ∑ k ∈ range 256, lo X T (n % 5) (256 * (n / 5) + k)

include H

theorem xBlk_val (c : Dev nD) (t : Fin cfg1.N) (k : Fin 256) (q : Fin 3200) :
    (xBlk (F := Ideal) c fx t (ix2 k q) : EReal) = (X (256 * (t.val / 5) + k.val) (3200 * (t.val % 5) + q.val) : EReal) := by
  have h : t.val < 80 := t.isLt.trans_eq N_1
  have hk := k.isLt
  have hq := q.isLt
  have hr : 256 * (t.val / 5) + k.val < 4096 := by omega
  have hc : 3200 * (t.val % 5) + q.val < 32000 := by omega
  refine Eq.trans ?_ (H.at2 ⟨_, hr⟩ ⟨_, hc⟩)
  show fx ((win1_0.rect t).emb (ix2 k q)) = _
  congr 1
  funext a
  apply Fin.ext
  refine (Pipeline.Window.rect_emb_val win1_0 t (ix2 k q) a).trans ?_
  match a with
  | ⟨0, _⟩ =>
    show (BitVec.ofNat 32 (grid1.coords t 0).val).toNat * 256 + k.val = 256 * (t.val / 5) + k.val
    rw [coords_row, BitVec.toNat_ofNat]
    omega
  | ⟨1, _⟩ =>
    show (BitVec.ofNat 32 (grid1.coords t 1).val).toNat * 3200 + q.val = 3200 * (t.val % 5) + q.val
    rw [coords_col, BitVec.toNat_ofNat]
    omega

theorem tgtBlk_val (t : Fin cfg1.N) (k : Fin 256) :
    tgtBlk (F := Ideal) (grid1.coords t) (blocks ft) (ix3 0 k 0) = BitVec.ofNat 32 (T (256 * (t.val / 5) + k.val)) := by
  have h : t.val < 80 := t.isLt.trans_eq N_1
  have hk := k.isLt
  have hr : 256 * (t.val / 5) + k.val < 4096 := by omega
  refine Eq.trans ?_ (H.at1 ⟨_, hr⟩)
  have ha : t.val / 5 < 16 := by omega
  have e : (Rect.unit (s := S16x256x1) (k1_off1 (grid1.coords t)) S1x256x1.size (k1_off1_inb (grid1.coords t))).emb (ix3 0 k 0)
      = ix3 (⟨t.val / 5, ha⟩ : Fin 16) k (0 : Fin 1) := by
    funext a
    apply Fin.ext
    rw [Rect.emb_apply]
    refine (congrArg (· + _) (congrFun (k1_off1_eq (grid1.coords t)) a)).trans ?_
    match a with
    | ⟨0, _⟩ =>
      show (grid1.coords t 0).val + 1 * 0 = t.val / 5
      rw [coords_row, Nat.mul_zero, Nat.add_zero]
    | ⟨1, _⟩ => show 0 + 1 * k.val = k.val; omega
    | ⟨2, _⟩ => rfl
  unfold tgtBlk
  rw [e]
  have e' : shapeCast S16x256x1 ft shapeCasts_S4096_S16x256x1 (ix3 (⟨t.val / 5, ha⟩ : Fin 16) k (0 : Fin 1))
      = ft (ix1 ⟨t.val / 5 * 256 + k.val, by omega⟩) := by pointwise
  refine e'.trans (congrArg (fun q => ft (ix1 q)) (Fin.ext ?_))
  show t.val / 5 * 256 + k.val = 256 * (t.val / 5) + k.val
  omega

omit H in
theorem pay2_val (a b : EReal) : k1_pay2 (F := Ideal) a b = b + a := rfl

omit H in
/-- The total before a point, as the point starts from it, is the same number. -/
theorem accStart_val (t : Fin cfg1.N) (a : EReal) (h0 : t.val = 0 → a = 0) : accStart (F := Ideal) (grid1.coords t) a = a := by
  unfold accStart
  rw [coords_row, coords_col]
  split
  · next h =>
    rw [h0 (by have := h.1; have := h.2; omega)]
    exact word_zero
  · rfl

/-- One point's step. -/
theorem accNext_val (c : Dev nD) (t : Fin cfg1.N) (a : EReal) (h0 : t.val = 0 → a = 0) :
    accNext (F := Ideal) (grid1.coords t) (xBlk (F := Ideal) c fx t) (blocks ft) a = a + (ptVal X T t.val : EReal) := by
  have e5 := pay5_val X T H.lt (256 * (t.val / 5)) (t.val % 5) (by omega) _ _ (tgtBlk_val H t) (xBlk_val H c t) (grid1.coords t) (coords_col t)
  have hc : accCol (F := Ideal) (grid1.coords t) (xBlk (F := Ideal) c fx t) (blocks ft) a
      = a + ((if t.val % 5 = 0 then ∑ k ∈ range 256, once X T (256 * (t.val / 5) + k) else 0 : ℝ) : EReal) := by
    unfold accCol
    rw [coords_col, accStart_val t a h0]
    by_cases h : t.val % 5 = 0
    · rw [if_pos h, if_pos h]
      exact pay1_val X T H.lt (256 * (t.val / 5)) (t.val % 5) (by omega) _ _ (tgtBlk_val H t) (xBlk_val H c t) h a
    · rw [if_neg h, if_neg h, EReal.coe_zero, add_zero]
  have e : accNext (F := Ideal) (grid1.coords t) (xBlk (F := Ideal) c fx t) (blocks ft) a
      = accCol (F := Ideal) (grid1.coords t) (xBlk (F := Ideal) c fx t) (blocks ft) a
        + k1_pay5 (F := Ideal) (grid1.coords t) (tgtBlk (F := Ideal) (grid1.coords t) (blocks ft)) (xBlk (F := Ideal) c fx t) := by
    unfold accNext; exact pay2_val _ _
  rw [e, hc, e5, add_assoc, ← EReal.coe_add]
  rfl

theorem accAt_val (c : Dev nD) : ∀ n, n ≤ 80 → (accAt (F := Ideal) c fx (blocks ft) n : EReal) = ((∑ t ∈ range n, ptVal X T t : ℝ) : EReal)
  | 0, _ => by
    rw [Finset.sum_range_zero]
    exact word_zero
  | n + 1, hn => by
    have hN : cfg1.N = 80 := N_1
    have hlt : n < cfg1.N := by omega
    have ih := accAt_val c n (by omega)
    have h0 : n = 0 → (accAt (F := Ideal) c fx (blocks ft) n : EReal) = 0 := fun h => by
      rw [ih, h, Finset.sum_range_zero, EReal.coe_zero]
    refine (accAt_succ (F := Ideal) c fx (blocks ft) ⟨n, hlt⟩).trans ?_
    refine (accNext_val H c ⟨n, hlt⟩ (accAt (F := Ideal) c fx (blocks ft) n) h0).trans ?_
    rw [ih, ← EReal.coe_add, Finset.sum_range_succ]

/-- The total after the whole grid, row by row. -/
theorem grid_sum (c : Dev nD) : (accAt (F := Ideal) c fx (blocks ft) 80 : EReal)
    = ((∑ R ∈ range 4096, (once X T R + ∑ j ∈ range 5, lo X T j R) : ℝ) : EReal) := by
  rw [accAt_val H c 80 le_rfl]
  congr 1
  rw [show 80 = 5 * 16 from rfl, sum_blocks _ 5 16, show 4096 = 256 * 16 from rfl, sum_blocks _ 256 16]
  refine Finset.sum_congr rfl fun i _ => ?_
  rw [Finset.sum_add_distrib, Finset.sum_comm (s := range 256)]
  have h : ∀ j ∈ range 5, ptVal X T (5 * i + j)
      = (if j = 0 then ∑ k ∈ range 256, once X T (256 * i + k) else 0) + ∑ k ∈ range 256, lo X T j (256 * i + k) := fun j hj => by
    have hj := Finset.mem_range.1 hj
    unfold ptVal
    rw [show (5 * i + j) % 5 = j by omega, show (5 * i + j) / 5 = i by omega]
  rw [Finset.sum_congr rfl h, Finset.sum_add_distrib, Finset.sum_ite_eq' (range 5) 0 fun _ => ∑ k ∈ range 256, once X T (256 * i + k)]
  rw [if_pos (Finset.mem_range.2 (by decide))]

end Grid

end Cert.Proof.Smooth

end
-- ==== Proof.RefValue.lean ====
/-
  What the reference computes, at the reading of floats as extended reals, where every entry of `x` is a real number: its
  table of weights entry by entry, and its loss as a sum over the rows.
-/
module

public import proofs.«01_k».proof.Proof.RefScatter
public import proofs.«01_k».proof.Proof.GridValue
public import proofs.«01_k».proof.Proof.Gen.ReferenceIdeal.Run
public import Idealize.ShloMosaic.Lib.Pointwise

@[expose] public section

set_option maxRecDepth 16384

noncomputable section

namespace Cert.Proof.Smooth

open Cert.ReferenceIdeal Cert.ReferenceIdeal.Gen

open Idealize.ShloMosaic
open Finset (range)

/-! ## The table of weights -/

/-- Where the large weights go: the rows' numbers beside their targets. -/
def pairs (ft : S4096.Idx → BitVec 32) : S4096x2.Idx → BitVec 32 :=
  concatenate S4096x2 1 [⟨S4096x1, broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0))⟩, ⟨S4096x1, broadcastInDim S4096x1 ![0] bcast_S4096_S4096x1_0 (select (cmpi .slt ft (broadcastInDim S4096 ![] bcast_S_S4096 (constantI S_ 32 0#32))) (addi ft (broadcastInDim S4096 ![] bcast_S_S4096 (constantI S_ 32 32000#32))) ft)⟩] concatenates_S4096x1_S4096x1_S4096x2_d1

/-- The small weight everywhere. -/
def smallW : S4096x32000.Idx → Ideal .f32 :=
  Host.divf (broadcastInDim S4096x32000 ![] bcast_S_S4096x32000 (constant S_ .f32 0x3F800000#32)) (broadcastInDim S4096x32000 ![] bcast_S_S4096x32000 (constant S_ .f32 0x489C3D80#32))

/-- The large weight, once a row. -/
def largeW : S4096.Idx → Ideal .f32 :=
  Host.divf (broadcastInDim S4096 ![] bcast_S_S4096 (constant S_ .f32 0x41100000#32)) (broadcastInDim S4096 ![] bcast_S_S4096 (constant S_ .f32 0x41200000#32))

/-- Zero, once a row. -/
def zeroW : S4096.Idx → Ideal .f32 := broadcastInDim S4096 ![] bcast_S_S4096 (constant S_ .f32 0x00000000#32)

/-- The table of weights. -/
def weights (ft : S4096.Idx → BitVec 32) : S4096x32000.Idx → Ideal .f32 :=
  Host.scatter scatter_S4096x32000_S1_S4096_0_1_1_0 (fun _ b => b)
    (Host.scatter scatter_S4096x32000_S4096x2_S4096_n_01_01_1 (fun _ b => b) smallW (pairs ft) largeW)
    (broadcastInDim S1 ![] bcast_S_S1 (constantI S_ 32 0#32)) zeroW

/-- The loss that the table of weights `W` gives. -/
def lossOf (W fx : S4096x32000.Idx → Ideal .f32) (ft : S4096.Idx → BitVec 32) : S_.Idx → Ideal .f32 :=
  Host.reduceAdd (select (broadcastInDim S4096x32000 ![0, 1] bcast_S4096x1_S4096x32000_0_1 (broadcastInDim S4096x1 ![0] bcast_S4096_S4096x1_0 (cmpi .ne ft (broadcastInDim S4096 ![] bcast_S_S4096 (constantI S_ 32 0#32)))))
    (subf (select (cmpf .ogt W (broadcastInDim S4096x32000 ![] bcast_S_S4096x32000 (constant S_ .f32 0x00000000#32)))
        (mulf W (Host.log (select (cmpf .ogt W (broadcastInDim S4096x32000 ![] bcast_S_S4096x32000 (constant S_ .f32 0x00000000#32))) W (broadcastInDim S4096x32000 ![] bcast_S_S4096x32000 (id (constant S_ .f32 0x3F800000#32))))))
        (broadcastInDim S4096x32000 ![] bcast_S_S4096x32000 (id (constant S_ .f32 0x00000000#32))))
      (mulf W fx))
    (broadcastInDim S4096x32000 ![] bcast_S_S4096x32000 (id (constant S_ .f32 0x00000000#32)))) (constant S_ .f32 0x00000000#32) reducesTo_S4096x32000_S_d0_1 h_S_

/-- The reference's result is the loss that its table of weights gives. -/
theorem res_eq (m : (ℓ : Loc nD τ sig) → Buf (Elt Ideal) ℓ) (c : Dev nD) :
    Cert.ReferenceIdeal.Value.res_out0 (F := Ideal) m c
      = lossOf (weights (m ((c.tc : Thread nD τ).loc main_arg1))) (m ((c.tc : Thread nD τ).loc main_arg0)) (m ((c.tc : Thread nD τ).loc main_arg1)) := by
  unfold Cert.ReferenceIdeal.Value.res_out0 Cert.ReferenceIdeal.Value.res_main_v38 lossOf weights smallW largeW zeroW pairs
  rfl

theorem smallW_val (i : S4096x32000.Idx) : smallW i = ((1 / 319980 : ℝ) : EReal) := by
  have e : smallW i = Ideal.div (Ideal.ofBits .f32 0x3F800000#32) (Ideal.ofBits .f32 0x489C3D80#32) := rfl
  rw [e, word_one, word_319980, Ideal.div_coe (by norm_num), ← EReal.coe_mul]
  norm_num

theorem largeW_val (i : S4096.Idx) : largeW i = ((9 / 10 : ℝ) : EReal) := by
  have e : largeW i = Ideal.div (Ideal.ofBits .f32 0x41100000#32) (Ideal.ofBits .f32 0x41200000#32) := rfl
  rw [e, word_nine, word_ten, Ideal.div_coe (by norm_num), ← EReal.coe_mul]
  norm_num

theorem zeroW_val (i : S4096.Idx) : zeroW i = ((0 : ℝ) : EReal) := word_zero

/-- A number that is not negative as a signed word is not wrapped around. -/
theorem no_wrap (n : ℕ) (hn : n < 32000) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem toInt_small (n : ℕ) (hn : n < 32000) : (BitVec.ofNat 32 n).toInt = n := by
  rw [BitVec.toInt_eq_toNat_of_lt (by rw [BitVec.toNat_ofNat]; omega), BitVec.toNat_ofNat]
  omega

section Reference
variable {fx : S4096x32000.Idx → Ideal .f32} {ft : S4096.Idx → BitVec 32} {X : ℕ → ℕ → ℝ} {T : ℕ → ℕ} (H : Reads fx ft X T)
include H

omit H in
theorem pairs_row (k : Fin 4096) : (pairs ft (ix2 k (0 : Fin 2))).toInt = k.val := by
  have hk := k.isLt
  have e : pairs ft (ix2 k (0 : Fin 2)) = Scalar.select (IntOp.cmpi .slt (BitVec.ofNat 32 k.val) 0#32) (IntOp.addi (BitVec.ofNat 32 k.val) 4096#32) (BitVec.ofNat 32 k.val) := by
    unfold pairs
    pointwise
  rw [e, no_wrap _ (by omega), toInt_small _ (by omega)]

theorem pairs_col (k : Fin 4096) : (pairs ft (ix2 k (1 : Fin 2))).toInt = T k.val := by
  have e : pairs ft (ix2 k (1 : Fin 2)) = Scalar.select (IntOp.cmpi .slt (ft (ix1 k)) 0#32) (IntOp.addi (ft (ix1 k)) 32000#32) (ft (ix1 k)) := by
    unfold pairs
    pointwise
  rw [e, H.at1, no_wrap _ (H.lt _), toInt_small _ (H.lt _)]

/-- The weight at row `r` and column `c`, where the row's target is `n`. -/
def wt (n c : ℕ) : ℝ := if c = 0 then 0 else if c = n then 9 / 10 else 1 / 319980

/-- The table of weights, entry by entry. -/
theorem weights_val (r : Fin 4096) (c : Fin 32000) : weights ft (ix2 r c) = (wt (T r.val) c.val : EReal) := by
  unfold weights
  rw [ix2_eq_valueIdx, column_set _ _ _ rfl,
    entry_set _ _ _ T (fun k => by rw [← ix2_eq_valueIdx]; exact pairs_row k) (fun k => by rw [← ix2_eq_valueIdx]; exact pairs_col H k),
    zeroW_val, largeW_val, smallW_val]
  unfold wt
  split
  · rfl
  · split <;> rfl

/-! ## The loss -/

/-- What entry `c` of row `R` adds to the loss. -/
def term (X : ℕ → ℕ → ℝ) (T : ℕ → ℕ) (R c : ℕ) : ℝ :=
  wt (T R) c * Real.log (wt (T R) c) - wt (T R) c * X R c

omit H in
theorem xlogx (w : ℝ) (hw : 0 ≤ w) :
    (Scalar.select (Ideal.cmp .ogt (w : EReal) ((0 : ℝ) : EReal))
        ((w : EReal) * Ideal.log (Scalar.select (Ideal.cmp .ogt (w : EReal) ((0 : ℝ) : EReal)) (w : EReal) ((1 : ℝ) : EReal))) ((0 : ℝ) : EReal) : EReal)
      = ((w * Real.log w : ℝ) : EReal) := by
  have e : Ideal.cmp .ogt (w : EReal) ((0 : ℝ) : EReal) = BitVec.ofBool (decide ((0 : ℝ) < w)) :=
    congrArg BitVec.ofBool (decide_eq_decide.2 EReal.coe_lt_coe_iff)
  rw [e]
  rcases hw.eq_or_lt with h | h
  · subst h
    simp [Scalar.select]
  · rw [decide_eq_true h]
    show (w : EReal) * Ideal.log (w : EReal) = _
    rw [Ideal.log_coe, if_neg (not_le.2 h), EReal.coe_mul]

/-- The reference's loss is the sum over the rows whose target is not the padding word, of every entry's part. -/
theorem loss_sum (i : S_.Idx) :
    lossOf (weights ft) fx ft i = ((∑ R ∈ range 4096, if T R = 0 then 0 else ∑ c ∈ range 32000, term X T R c : ℝ) : EReal) := by
  have e : lossOf (weights ft) fx ft i
      = Ideal.ofBits .f32 0x00000000#32 + ∑ r : Fin 4096, ∑ c : Fin 32000,
          Scalar.select (IntOp.cmpi .ne (ft (ix1 r)) 0#32)
            (Scalar.select (Ideal.cmp .ogt (weights ft (ix2 r c)) (Ideal.ofBits .f32 0x00000000#32))
                (weights ft (ix2 r c) * Ideal.log (Scalar.select (Ideal.cmp .ogt (weights ft (ix2 r c)) (Ideal.ofBits .f32 0x00000000#32)) (weights ft (ix2 r c)) (Ideal.ofBits .f32 0x3F800000#32)))
                (Ideal.ofBits .f32 0x00000000#32)
              - weights ft (ix2 r c) * fx (ix2 r c) : EReal)
            (Ideal.ofBits .f32 0x00000000#32) := by
    generalize weights ft = W
    unfold lossOf
    simp only [id_eq]
    pointwise
  rw [e, sum_fin_coe _ (fun R => if T R = 0 then 0 else ∑ c ∈ range 32000, term X T R c) fun r => ?_, word_zero, ← EReal.coe_add, zero_add]
  rw [sum_fin_coe _ (fun c => if T r.val = 0 then 0 else term X T r.val c) fun c => ?_]
  · by_cases h : T r.val = 0
    · simp [h]
    · simp [h]
  · have hw : 0 ≤ wt (T r.val) c.val := by
      unfold wt
      split
      · exact le_rfl
      · split <;> norm_num
    rw [H.at1, H.at2, weights_val H, sel_ne _ (H.lt _), word_zero, word_one, xlogx _ hw, ← EReal.coe_mul, ← EReal.coe_sub]
    split <;> rfl

end Reference

end Cert.Proof.Smooth

end
-- ==== Proof.Equation.lean ====
/-
  The equation in the real numbers: what the kernel adds for a row is what the reference adds for it.
-/
module

public import proofs.«01_k».proof.Proof.RefValue

@[expose] public section

noncomputable section

namespace Cert.Proof.Smooth

open Finset (range)

/-- The logarithm that the kernel's constant holds, taken apart into those of the two weights. -/
theorem entropy_parts :
    (1 / 10 : ℝ) * Real.log (129140163 / 106660000000000)
      = 31998 * (1 / 319980 * Real.log (1 / 319980)) + 9 / 10 * Real.log (9 / 10) := by
  have e : (129140163 / 106660000000000 : ℝ) = 1 / 319980 * (9 / 10) ^ 9 := by norm_num
  rw [e, Real.log_mul (by norm_num) (by norm_num), Real.log_pow]
  push_cast
  ring

section Row
variable (x : ℕ → ℝ) (n : ℕ) (hn : n < 32000) (h0 : n ≠ 0)
include hn h0

/-- A column's part, as the small weight's part with corrections at the first column and at the target's. -/
theorem entry_parts (c : ℕ) :
    wt n c * Real.log (wt n c) - wt n c * x c
      = (1 / 319980 * Real.log (1 / 319980) - 1 / 319980 * x c)
        + (if 0 = c then 1 / 319980 * x 0 - 1 / 319980 * Real.log (1 / 319980) else 0)
        + (if n = c then (9 / 10 * Real.log (9 / 10) - 1 / 319980 * Real.log (1 / 319980)) + -287981 / 319980 * x n else 0) := by
  unfold wt
  by_cases hc : c = 0
  · subst hc
    rw [if_pos rfl, if_pos rfl, if_neg h0]
    ring
  · rw [if_neg hc, if_neg (Ne.symm hc)]
    by_cases hq : c = n
    · subst hq
      rw [if_pos rfl, if_pos rfl]
      ring
    · rw [if_neg hq, if_neg (Ne.symm hq)]
      ring

/-- The sum of a row's parts. -/
theorem row_sum_eq :
    ∑ c ∈ range 32000, (wt n c * Real.log (wt n c) - wt n c * x c)
      = (1 / 10) * Real.log (129140163 / 106660000000000) - 1 / 319980 * ∑ c ∈ range 32000, x c + 1 / 319980 * x 0 + -287981 / 319980 * x n := by
  rw [Finset.sum_congr rfl fun c _ => entry_parts x n hn h0 c, Finset.sum_add_distrib, Finset.sum_add_distrib, Finset.sum_sub_distrib,
    Finset.sum_const, Finset.card_range, ← Finset.mul_sum, Finset.sum_ite_eq, Finset.sum_ite_eq,
    if_pos (Finset.mem_range.2 (by norm_num)), if_pos (Finset.mem_range.2 hn), entropy_parts, nsmul_eq_mul]
  push_cast
  ring

end Row

variable (X : ℕ → ℕ → ℝ) (T : ℕ → ℕ)

/-- The five blocks of the low columns of a row. -/
theorem lo_sum (R : ℕ) (h0 : T R ≠ 0) :
    ∑ j ∈ range 5, lo X T j R
      = -1 / 319980 * ∑ c ∈ range 16000, X R c + -287981 / 319980 * (if T R < 16000 then X R (T R) else 0) := by
  unfold lo
  simp only [if_neg h0]
  have e : (∑ j ∈ range 5, ∑ c ∈ range 3200, if T R = 3200 * j + c ∧ T R ≠ 0 then X R (3200 * j + c) else 0)
      = if T R < 16000 then X R (T R) else 0 := by
    rw [← sum_blocks (fun c => if T R = c ∧ T R ≠ 0 then X R c else 0) 3200 5]
    simp only [and_iff_left h0]
    rw [Finset.sum_ite_eq]
    simp only [Finset.mem_range]
  rw [Finset.sum_add_distrib, ← Finset.mul_sum, ← Finset.mul_sum, e, ← sum_blocks (X R) 3200 5]

/-- What the kernel adds for a row is what the reference adds for it. -/
theorem row_eq (hT : ∀ r, T r < 32000) (R : ℕ) :
    (once X T R + ∑ j ∈ range 5, lo X T j R) + (-287981 / 319980 * hiGat X T R + hiSum X T R)
      = if T R = 0 then 0 else ∑ c ∈ range 32000, term X T R c := by
  by_cases h0 : T R = 0
  · rw [if_pos h0]
    unfold once lo hiGat hiSum
    simp [h0]
  · rw [if_neg h0, lo_sum X T R h0]
    unfold term
    rw [row_sum_eq (X R) (T R) (hT R) h0, show 32000 = 16000 + 16000 from rfl, Finset.sum_range_add]
    unfold once hiGat hiSum
    simp only [if_neg h0]
    by_cases h : T R < 16000
    · rw [if_pos h, if_neg (not_le.2 h)]
      ring
    · rw [if_neg h, if_pos (not_lt.1 h)]
      ring

/-- The same, over all rows. -/
theorem total_eq (hT : ∀ r, T r < 32000) :
    (∑ R ∈ range 4096, (once X T R + ∑ j ∈ range 5, lo X T j R)) + ∑ R ∈ range 4096, (-287981 / 319980 * hiGat X T R + hiSum X T R)
      = ∑ R ∈ range 4096, if T R = 0 then 0 else ∑ c ∈ range 32000, term X T R c := by
  rw [← Finset.sum_add_distrib]
  exact Finset.sum_congr rfl fun R _ => row_eq X T hT R

end Cert.Proof.Smooth

end
-- ==== Proof.Algebra.lean ====
/-
  The equation between the ideal program and the ideal reference: from the precondition, every entry of `x` is a real number and
  every target a column; then both results are the same sum of real numbers.
-/
module

public import proofs.«01_k».proof.Proof.Frames
public import proofs.«01_k».proof.Proof.Equation

@[expose] public section

set_option maxRecDepth 16384

noncomputable section

namespace Cert.Proof.Smooth

open Cert.KernelIdeal Cert.KernelIdeal.Gen

open Idealize.ShloMosaic Idealize.ShloMosaic.TcCoe Idealize.SL.Sem
open Finset (range)

/-- An extended real whose absolute value compares below the infinity is a real number. -/
theorem real_of_lt (a : EReal) (h : Ideal.cmp .olt (max a (-a)) (Ideal.ofBits .f32 0x7F800000#32) = 1#1) : a = (a.toReal : EReal) := by
  rw [word_inf] at h
  have hlt : max a (-a) < ⊤ := by
    by_contra hn
    rw [show Ideal.cmp .olt (max a (-a)) ⊤ = BitVec.ofBool (decide (max a (-a) < ⊤)) from rfl, decide_eq_false hn] at h
    exact absurd h (by decide)
  have h1 := (max_lt_iff.1 hlt).1
  have h2 := (max_lt_iff.1 hlt).2
  exact (EReal.coe_toReal h1.ne fun e => h2.ne (by rw [e]; rfl)).symm

/-- The real number at row `r` and column `c`. -/
def rX (fx : S4096x32000.Idx → Ideal .f32) (r c : ℕ) : ℝ := EReal.toReal (fx (ix2 (Fin.ofNat 4096 r) (Fin.ofNat 32000 c)))

/-- The target of row `r`. -/
def rT (ft : S4096.Idx → BitVec 32) (r : ℕ) : ℕ := (ft (ix1 (Fin.ofNat 4096 r))).toNat

/-- What the precondition gives: the entries are real numbers, the targets columns. -/
theorem reads (fx : S4096x32000.Idx → Ideal .f32) (ft : S4096.Idx → BitVec 32)
    (e : Cert.Pre_finite_in_range.fn (F := Ideal) fx ft = fun _ => 1#1) : Reads fx ft (rX fx) (rT ft) where
  x r c := by
    rw [← ix2_eq_valueIdx]
    unfold rX
    rw [show Fin.ofNat 4096 r.val = r from Fin.ext (Nat.mod_eq_of_lt r.isLt), show Fin.ofNat 32000 c.val = c from Fin.ext (Nat.mod_eq_of_lt c.isLt)]
    exact real_of_lt _ ((of_finite_in_range fx ft e).2 (ix2 r c))
  t r := by
    rw [← ix1_eq_valueIdx]
    unfold rT
    rw [show Fin.ofNat 4096 r.val = r from Fin.ext (Nat.mod_eq_of_lt r.isLt)]
    rw [BitVec.ofNat_toNat, BitVec.setWidth_eq]
  lt r := by
    obtain ⟨h1, h2⟩ := (of_finite_in_range fx ft e).1 (ix1 (Fin.ofNat 4096 r))
    unfold rT
    rw [BitVec.sle_eq_decide, decide_eq_true_eq] at h1
    rw [BitVec.slt_eq_decide, decide_eq_true_eq] at h2
    have e0 : (0#32).toInt = 0 := rfl
    have e1 : (32000#32).toInt = 32000 := rfl
    rw [e0] at h1
    rw [e1] at h2
    rw [BitVec.toInt_eq_toNat_cond] at h1 h2
    split at h1 <;> omega

/-- The program's last operations add the total and all the parts. -/
theorem last_sum (A : EReal) (P : S32x16.Idx → Ideal .f32) (i : S_.Idx) :
    (addf (shapeCast S_ (fun _ => A : S1x1.Idx → Ideal .f32) shapeCasts_S1x1_S_)
        (Host.reduceAdd P (constant S_ .f32 0x00000000#32) reducesTo_S32x16_S_d0_1 h_S_) i : EReal)
      = A + ∑ w : Fin 32, ∑ l : Fin 16, (P (ix2 w l) : EReal) := by
  pointwise

/-- The kernels' values add up to the reference's loss. -/
theorem loss_eq {fx : S4096x32000.Idx → Ideal .f32} {ft : S4096.Idx → BitVec 32} {X : ℕ → ℕ → ℝ} {T : ℕ → ℕ} (H : Reads fx ft X T)
    (d : Dev nD) (A : EReal) (P : S32x16.Idx → Ideal .f32) (hA : A = accAt (F := Ideal) d fx (blocks ft) 80) (hP : P = parts (F := Ideal) fx ft) :
    addf (shapeCast S_ (fun _ => A : S1x1.Idx → Ideal .f32) shapeCasts_S1x1_S_)
        (Host.reduceAdd P (constant S_ .f32 0x00000000#32) reducesTo_S32x16_S_d0_1 h_S_)
      = lossOf (weights ft) fx ft := by
  have hp := parts_sum H
  rw [← hP] at hp
  have hg := grid_sum H d
  rw [← hA] at hg
  funext i
  refine (last_sum A P i).trans ?_
  simp only [ix2_eq_valueIdx]
  rw [hp, hg, loss_sum H i, ← total_eq X T H.lt, EReal.coe_add]

/-- The ideal program's result is the reference's loss. -/
theorem value_eq (m : (ℓ : Loc nD τ sig) → Buf (Elt Ideal) ℓ) (d : Dev nD) (X : ℕ → ℕ → ℝ) (T : ℕ → ℕ)
    (H : Reads (m (xLoc d)) (m (tLoc d)) X T) :
    Rv (F := Ideal) m d = lossOf (weights (m (tLoc d))) (m (xLoc d)) (m (tLoc d)) :=
  (Rv_eq m d).trans (loss_eq H d (total m d) (pOut m d) (congrArg (fun t => accAt (F := Ideal) d (m (xLoc d)) t 80) (tgts_eq m d)) rfl)

/-- The ideal program and the ideal reference end with equal results, on every device. -/
theorem algebraic : Cert.algebraic_KernelIdeal_ReferenceIdeal_pre_finite_in_range := fun m g m' g' hp hargs =>
  ⟨Rv (F := Ideal) m,
    (θ_run (Cert.KernelIdeal.defs (F := Ideal)) _ _).mono (fun _ h => h.1) (run_main (F := Ideal) m g fun d k => (of_finite_in_range _ _ (hp d)).1 k),
    (θ_run Cert.ReferenceIdeal.defs _ _).mono (fun r h c => ⟨(h c).1.trans ((res_eq m' c).trans (by
        rw [(hargs c).1, (hargs c).2]
        exact (value_eq m c _ _ (reads _ _ (hp c))).symm)), (h c).2⟩)
      (Cert.ReferenceIdeal.Value.run (F := Ideal) m' g')⟩

end Cert.Proof.Smooth

end
-- ==== Proof.lean ====
module

public import proofs.«01_k».proof.Defs
public import proofs.«01_k».proof.Proof.Frames
public import proofs.«01_k».proof.Proof.Algebra
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite_in_range
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  Cert.Pre_finite_in_range.Gen.facts,
  Smooth.frame_kernel, Smooth.frame_ideal, Smooth.frame_ideal_finite, Smooth.frame_reference, Smooth.frame_reference_finite,
  Smooth.preserves, Smooth.algebraic⟩

end Cert.Proof

end
